-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def preserves_Kernel_KernelIdeal : Prop :=
  True

def algebraic_KernelIdeal_ReferenceIdeal_on_gate_rows_pre_finite [hKernelIdeal : Cert.KernelIdeal.Facts] [hReferenceIdeal : Cert.ReferenceIdeal.Facts] [hPre_finite : Cert.Pre_finite.Facts] [hOn_gate_rows : Cert.On_gate_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 1024]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v29_0) i = v0 c i)
          ∧ (∀ i : (⟨4, ![16, 4, 64, 128]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.KernelIdeal.nD Cert.KernelIdeal.τ).loc Cert.KernelIdeal.main_v29_1) i = v1 c i)
          ∧ (∀ i : (⟨4, ![16, 4, 1, 64]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 i = 1#1 → r.2.mem ((c.tc : Thread Cert.KernelIdeal.nD Cert.KernelIdeal.τ).loc Cert.KernelIdeal.main_v29_2) i = v2 c i)
          ∧ (∀ i : (⟨3, ![16, 8, 256]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 i = 1#1 → r.2.mem ((c.tc : Thread Cert.KernelIdeal.nD Cert.KernelIdeal.τ).loc Cert.KernelIdeal.main_v29_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 1024]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v136) i = v0 c i)
          ∧ (∀ i : (⟨4, ![16, 4, 64, 128]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.ReferenceIdeal.nD Cert.ReferenceIdeal.τ).loc Cert.ReferenceIdeal.main_v75) i = v1 c i)
          ∧ (∀ i : (⟨4, ![16, 4, 1, 64]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 i = 1#1 → r.2.mem ((c.tc : Thread Cert.ReferenceIdeal.nD Cert.ReferenceIdeal.τ).loc Cert.ReferenceIdeal.main_v137) i = v2 c i)
          ∧ (∀ i : (⟨3, ![16, 8, 256]⟩ : Shape).Idx, (Cert.On_gate_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 i = 1#1 → r.2.mem ((c.tc : Thread Cert.ReferenceIdeal.nD Cert.ReferenceIdeal.τ).loc Cert.ReferenceIdeal.main_v135) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v25_1)) (v1 : (c : Dev Cert.Kernel3Ideal.nD) → Buf (Elt Ideal) ((c.tc : Thread Cert.Kernel3Ideal.nD Cert.Kernel3Ideal.τ).loc Cert.Kernel3Ideal.main_v25_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_1) = v0 c
          ∧ r.2.mem ((c.tc : Thread Cert.Kernel3Ideal.nD Cert.Kernel3Ideal.τ).loc Cert.Kernel3Ideal.main_v25_2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hOn_gate_rows : Cert.On_gate_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_gate_rows_pre_finite (hKernelIdeal := hKernelIdeal) (hReferenceIdeal := hReferenceIdeal) (hPre_finite := hPre_finite) (hOn_gate_rows := hOn_gate_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== On_gate_rows.lean ====
abbrev S16x2048x1024 : Shape := ⟨3, ![16, 2048, 1024]⟩
abbrev S16x2048x512 : Shape := ⟨3, ![16, 2048, 512]⟩
abbrev S16x2048x4x64 : Shape := ⟨4, ![16, 2048, 4, 64]⟩
abbrev S16x2048x4x128 : Shape := ⟨4, ![16, 2048, 4, 128]⟩
abbrev S16x2048x4 : Shape := ⟨3, ![16, 2048, 4]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x8x256 : Shape := ⟨3, ![16, 8, 256]⟩
abbrev S_ : Shape := ⟨0, ![]⟩
abbrev S32768x1024 : Shape := ⟨2, ![32768, 1024]⟩
abbrev S16x4x64x128 : Shape := ⟨4, ![16, 4, 64, 128]⟩
abbrev S16x4x1x64 : Shape := ⟨4, ![16, 4, 1, 64]⟩

class Facts : Prop where
  bcast_S_S32768x1024 : S_.BroadcastsInDim S32768x1024 (![] : Fin 0 → Fin S32768x1024.rank)
  bcast_S_S16x4x64x128 : S_.BroadcastsInDim S16x4x64x128 (![] : Fin 0 → Fin S16x4x64x128.rank)
  bcast_S_S16x4x1x64 : S_.BroadcastsInDim S16x4x1x64 (![] : Fin 0 → Fin S16x4x1x64.rank)
  bcast_S_S16x8x256 : S_.BroadcastsInDim S16x8x256 (![] : Fin 0 → Fin S16x8x256.rank)

variable [Facts]

def fn {F : FTy → Type} [FloatOps F] (main_arg0 : FVec F S16x2048x1024 .f32) (main_arg1 : FVec F S16x2048x512 .f32) (main_arg2 : FVec F S16x2048x4x64 .f32) (main_arg3 : FVec F S16x2048x4x64 .f32) (main_arg4 : FVec F S16x2048x4x128 .f32) (main_arg5 : FVec F S16x2048x4x128 .f32) (main_arg6 : FVec F S16x2048x4 .f32) (main_arg7 : FVec F S16x2048x4 .f32) (main_arg8 : FVec F S512 .f32) (main_arg9 : FVec F S1024x1024 .f32) (main_arg10 : FVec F S1024 .f32) (main_arg11 : FVec F S1024x4096 .f32) (main_arg12 : FVec F S4096x1024 .f32) (main_arg13 : FVec F S1024 .f32) : IVec S32768x1024 1 × IVec S16x4x64x128 1 × IVec S16x4x1x64 1 × IVec S16x8x256 1 :=
  let main_v0 : IVec S16x8x256 32 := iotaInDim S16x8x256 32 1
  let main_c : IVec S_ 1 := constantI S_ 1 1#1
  let main_v1 : IVec S32768x1024 1 := broadcastInDim S32768x1024 ![] bcast_S_S32768x1024 main_c
  let main_c_0 : IVec S_ 1 := constantI S_ 1 1#1
  let main_v2 : IVec S16x4x64x128 1 := broadcastInDim S16x4x64x128 ![] bcast_S_S16x4x64x128 main_c_0
  let main_c_1 : IVec S_ 1 := constantI S_ 1 1#1
  let main_v3 : IVec S16x4x1x64 1 := broadcastInDim S16x4x1x64 ![] bcast_S_S16x4x1x64 main_c_1
  let main_c_2 : IVec S_ 32 := constantI S_ 32 4#32
  let main_v4 : IVec S16x8x256 32 := broadcastInDim S16x8x256 ![] bcast_S_S16x8x256 main_c_2
  let main_v5 : IVec S16x8x256 1 := cmpi .sge main_v0 main_v4
  (main_v1, main_v2, main_v3, main_v5)
-- ==== Pre_finite.lean ====
abbrev S16x2048x1024 : Shape := ⟨3, ![16, 2048, 1024]⟩
abbrev S16x2048x512 : Shape := ⟨3, ![16, 2048, 512]⟩
abbrev S16x2048x4x64 : Shape := ⟨4, ![16, 2048, 4, 64]⟩
abbrev S16x2048x4x128 : Shape := ⟨4, ![16, 2048, 4, 128]⟩
abbrev S16x2048x4 : Shape := ⟨3, ![16, 2048, 4]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16x2048x4x64 : S_.BroadcastsInDim S16x2048x4x64 (![] : Fin 0 → Fin S16x2048x4x64.rank)
  bcast_S_S16x2048x4x128 : S_.BroadcastsInDim S16x2048x4x128 (![] : Fin 0 → Fin S16x2048x4x128.rank)
  bcast_S_S16x2048x4 : S_.BroadcastsInDim S16x2048x4 (![] : Fin 0 → Fin S16x2048x4.rank)

variable [Facts]

def fn {F : FTy → Type} [FloatOps F] (main_arg0 : FVec F S16x2048x1024 .f32) (main_arg1 : FVec F S16x2048x512 .f32) (main_arg2 : FVec F S16x2048x4x64 .f32) (main_arg3 : FVec F S16x2048x4x64 .f32) (main_arg4 : FVec F S16x2048x4x128 .f32) (main_arg5 : FVec F S16x2048x4x128 .f32) (main_arg6 : FVec F S16x2048x4 .f32) (main_arg7 : FVec F S16x2048x4 .f32) (main_arg8 : FVec F S512 .f32) (main_arg9 : FVec F S1024x1024 .f32) (main_arg10 : FVec F S1024 .f32) (main_arg11 : FVec F S1024x4096 .f32) (main_arg12 : FVec F S4096x1024 .f32) (main_arg13 : FVec F S1024 .f32) : IVec S16x2048x4x64 1 × IVec S16x2048x4x64 1 × IVec S16x2048x4x128 1 × IVec S16x2048x4x128 1 × IVec S16x2048x4 1 × IVec S16x2048x4 1 :=
  let main_v0 : FVec F S16x2048x4x64 .f32 := Host.absf main_arg2
  let main_cst : FVec F S_ .f32 := constant S_ .f32 0x7F800000#32
  let main_v1 : FVec F S16x2048x4x64 .f32 := broadcastInDim S16x2048x4x64 ![] bcast_S_S16x2048x4x64 main_cst
  let main_v2 : IVec S16x2048x4x64 1 := cmpf .olt main_v0 main_v1
  let main_v3 : FVec F S16x2048x4x64 .f32 := Host.absf main_arg3
  let main_cst_0 : FVec F S_ .f32 := constant S_ .f32 0x7F800000#32
  let main_v4 : FVec F S16x2048x4x64 .f32 := broadcastInDim S16x2048x4x64 ![] bcast_S_S16x2048x4x64 main_cst_0
  let main_v5 : IVec S16x2048x4x64 1 := cmpf .olt main_v3 main_v4
  let main_v6 : FVec F S16x2048x4x128 .f32 := Host.absf main_arg4
  let main_cst_1 : FVec F S_ .f32 := constant S_ .f32 0x7F800000#32
  let main_v7 : FVec F S16x2048x4x128 .f32 := broadcastInDim S16x2048x4x128 ![] bcast_S_S16x2048x4x128 main_cst_1
  let main_v8 : IVec S16x2048x4x128 1 := cmpf .olt main_v6 main_v7
  let main_v9 : FVec F S16x2048x4x128 .f32 := Host.absf main_arg5
  let main_cst_2 : FVec F S_ .f32 := constant S_ .f32 0x7F800000#32
  let main_v10 : FVec F S16x2048x4x128 .f32 := broadcastInDim S16x2048x4x128 ![] bcast_S_S16x2048x4x128 main_cst_2
  let main_v11 : IVec S16x2048x4x128 1 := cmpf .olt main_v9 main_v10
  let main_v12 : FVec F S16x2048x4 .f32 := Host.absf main_arg6
  let main_cst_3 : FVec F S_ .f32 := constant S_ .f32 0x7F800000#32
  let main_v13 : FVec F S16x2048x4 .f32 := broadcastInDim S16x2048x4 ![] bcast_S_S16x2048x4 main_cst_3
  let main_v14 : IVec S16x2048x4 1 := cmpf .olt main_v12 main_v13
  let main_v15 : FVec F S16x2048x4 .f32 := Host.absf main_arg7
  let main_cst_4 : FVec F S_ .f32 := constant S_ .f32 0x7F800000#32
  let main_v16 : FVec F S16x2048x4 .f32 := broadcastInDim S16x2048x4 ![] bcast_S_S16x2048x4 main_cst_4
  let main_v17 : IVec S16x2048x4 1 := cmpf .olt main_v15 main_v16
  (main_v2, main_v5, main_v8, main_v11, main_v14, main_v17)
-- ==== Kernel.lean ====
abbrev S16x2048x1024 : Shape := ⟨3, ![16, 2048, 1024]⟩
abbrev S16x2048x512 : Shape := ⟨3, ![16, 2048, 512]⟩
abbrev S16x2048x4x64 : Shape := ⟨4, ![16, 2048, 4, 64]⟩
abbrev S16x2048x4x128 : Shape := ⟨4, ![16, 2048, 4, 128]⟩
abbrev S16x2048x4 : Shape := ⟨3, ![16, 2048, 4]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x4 : Shape := ⟨2, ![32768, 4]⟩
abbrev S4x32768 : Shape := ⟨2, ![4, 32768]⟩
abbrev S8x32768 : Shape := ⟨2, ![8, 32768]⟩
abbrev S512x1 : Shape := ⟨2, ![512, 1]⟩
abbrev S512x256 : Shape := ⟨2, ![512, 256]⟩
abbrev S32768x1024 : Shape := ⟨2, ![32768, 1024]⟩
abbrev S32768x512 : Shape := ⟨2, ![32768, 512]⟩
abbrev S512x32768 : Shape := ⟨2, ![512, 32768]⟩
abbrev S32768x256 : Shape := ⟨2, ![32768, 256]⟩
abbrev S256x32768 : Shape := ⟨2, ![256, 32768]⟩
abbrev S512x1024 : Shape := ⟨2, ![512, 1024]⟩
abbrev S1x1024 : Shape := ⟨2, ![1, 1024]⟩
abbrev S16x4x64x128 : Shape := ⟨4, ![16, 4, 64, 128]⟩
abbrev S16x4x1x64 : Shape := ⟨4, ![16, 4, 1, 64]⟩
abbrev S16x8x256 : Shape := ⟨3, ![16, 8, 256]⟩
abbrev S512x512 : Shape := ⟨2, ![512, 512]⟩
abbrev S256x512 : Shape := ⟨2, ![256, 512]⟩
abbrev S8x512 : Shape := ⟨2, ![8, 512]⟩
abbrev S1x4x64x128 : Shape := ⟨4, ![1, 4, 64, 128]⟩
abbrev S1x4x1x64 : Shape := ⟨4, ![1, 4, 1, 64]⟩
abbrev S1x8x256 : Shape := ⟨3, ![1, 8, 256]⟩
abbrev S2x512x512 : Shape := ⟨3, ![2, 512, 512]⟩
abbrev S4x144x64 : Shape := ⟨3, ![4, 144, 64]⟩
abbrev S8x256 : Shape := ⟨2, ![8, 256]⟩
abbrev S1x144x64 : Shape := ⟨3, ![1, 144, 64]⟩
abbrev S144x64 : Shape := ⟨2, ![144, 64]⟩
abbrev S256x256 : Shape := ⟨2, ![256, 256]⟩
abbrev S16x256 : Shape := ⟨2, ![16, 256]⟩
abbrev S112x256 : Shape := ⟨2, ![112, 256]⟩
abbrev S1x512x512 : Shape := ⟨3, ![1, 512, 512]⟩
abbrev S256x64 : Shape := ⟨2, ![256, 64]⟩
abbrev S64x256 : Shape := ⟨2, ![64, 256]⟩
abbrev S128x256 : Shape := ⟨2, ![128, 256]⟩
abbrev S144x256 : Shape := ⟨2, ![144, 256]⟩
abbrev S512x4096 : Shape := ⟨2, ![512, 4096]⟩
abbrev S8x1 : Shape := ⟨2, ![8, 1]⟩
abbrev S256x128 : Shape := ⟨2, ![256, 128]⟩
abbrev S256x1 : Shape := ⟨2, ![256, 1]⟩
abbrev S1x256 : Shape := ⟨2, ![1, 256]⟩
abbrev S256 : Shape := ⟨1, ![256]⟩
abbrev S1x128x256 : Shape := ⟨3, ![1, 128, 256]⟩
abbrev S1x1 : Shape := ⟨2, ![1, 1]⟩
abbrev S1x128x64 : Shape := ⟨3, ![1, 128, 64]⟩
abbrev S128x64 : Shape := ⟨2, ![128, 64]⟩
abbrev S64x128 : Shape := ⟨2, ![64, 128]⟩
abbrev S1x1x64x128 : Shape := ⟨4, ![1, 1, 64, 128]⟩
abbrev S1x1x64 : Shape := ⟨3, ![1, 1, 64]⟩
abbrev S1x64 : Shape := ⟨2, ![1, 64]⟩
abbrev S1x1x1x64 : Shape := ⟨4, ![1, 1, 1, 64]⟩

abbrev nBuf : Space → Nat
  | .hbm => 47
  | .vmem => 32
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x4x64, .f32⟩
  | .hbm, ⟨3, _⟩ => ⟨S16x2048x4x64, .f32⟩
  | .hbm, ⟨4, _⟩ => ⟨S16x2048x4x128, .f32⟩
  | .hbm, ⟨5, _⟩ => ⟨S16x2048x4x128, .f32⟩
  | .hbm, ⟨6, _⟩ => ⟨S16x2048x4, .f32⟩
  | .hbm, ⟨7, _⟩ => ⟨S16x2048x4, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S32768x4, .f32⟩
  | .hbm, ⟨15, _⟩ => ⟨S4x32768, .f32⟩
  | .hbm, ⟨16, _⟩ => ⟨S32768x4, .f32⟩
  | .hbm, ⟨17, _⟩ => ⟨S4x32768, .f32⟩
  | .hbm, ⟨18, _⟩ => ⟨S8x32768, .f32⟩
  | .hbm, ⟨19, _⟩ => ⟨S512x1, .f32⟩
  | .hbm, ⟨20, _⟩ => ⟨S512x256, .f32⟩
  | .hbm, ⟨21, _⟩ => ⟨S32768x1024, .f32⟩
  | .hbm, ⟨22, _⟩ => ⟨S32768x512, .f32⟩
  | .hbm, ⟨23, _⟩ => ⟨S512x32768, .f32⟩
  | .hbm, ⟨24, _⟩ => ⟨S512x32768, .bf16⟩
  | .hbm, ⟨25, _⟩ => ⟨S32768x256, .f32⟩
  | .hbm, ⟨26, _⟩ => ⟨S256x32768, .f32⟩
  | .hbm, ⟨27, _⟩ => ⟨S256x32768, .bf16⟩
  | .hbm, ⟨28, _⟩ => ⟨S32768x256, .f32⟩
  | .hbm, ⟨29, _⟩ => ⟨S32768x256, .bf16⟩
  | .hbm, ⟨30, _⟩ => ⟨S32768x512, .f32⟩
  | .hbm, ⟨31, _⟩ => ⟨S512x32768, .f32⟩
  | .hbm, ⟨32, _⟩ => ⟨S512x32768, .bf16⟩
  | .hbm, ⟨33, _⟩ => ⟨S32768x512, .f32⟩
  | .hbm, ⟨34, _⟩ => ⟨S512x32768, .f32⟩
  | .hbm, ⟨35, _⟩ => ⟨S512x1024, .f32⟩
  | .hbm, ⟨36, _⟩ => ⟨S512x1024, .bf16⟩
  | .hbm, ⟨37, _⟩ => ⟨S512x1024, .f32⟩
  | .hbm, ⟨38, _⟩ => ⟨S512x1024, .bf16⟩
  | .hbm, ⟨39, _⟩ => ⟨S1x1024, .f32⟩
  | .hbm, ⟨40, _⟩ => ⟨S1024x4096, .bf16⟩
  | .hbm, ⟨41, _⟩ => ⟨S4096x1024, .bf16⟩
  | .hbm, ⟨42, _⟩ => ⟨S1x1024, .f32⟩
  | .hbm, ⟨43, _⟩ => ⟨S32768x1024, .f32⟩
  | .hbm, ⟨44, _⟩ => ⟨S16x4x64x128, .f32⟩
  | .hbm, ⟨45, _⟩ => ⟨S16x4x1x64, .f32⟩
  | .hbm, ⟨46, _⟩ => ⟨S16x8x256, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S256x512, .bf16⟩
  | .local _ .vmem, ⟨5, _⟩ => ⟨S256x512, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S512x256, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1x4x64x128, .f32⟩
  | .local _ .vmem, ⟨24, _⟩ => ⟨S1x4x64x128, .f32⟩
  | .local _ .vmem, ⟨25, _⟩ => ⟨S1x4x1x64, .f32⟩
  | .local _ .vmem, ⟨26, _⟩ => ⟨S1x4x1x64, .f32⟩
  | .local _ .vmem, ⟨27, _⟩ => ⟨S1x8x256, .f32⟩
  | .local _ .vmem, ⟨28, _⟩ => ⟨S1x8x256, .f32⟩
  | .local _ .vmem, ⟨29, _⟩ => ⟨S2x512x512, .bf16⟩
  | .local _ .vmem, ⟨30, _⟩ => ⟨S4x144x64, .f32⟩
  | .local _ .vmem, ⟨31, _⟩ => ⟨S8x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : BitVec 32 := Scalar.subi c1_i32_37 v9
  let v66 : Index := Scalar.indexCast v65
  let c0_38 : Index := 0#32
  let c0_39 : Index := 0#32
  ![v66.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v494 : Index := Scalar.indexCast v9
  let c0_209 : Index := 0#32
  let c0_210 : Index := 0#32
  ![v494.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v533 : Index := Scalar.indexCast v9
  let c128_219 : Index := 128#32
  let c0_220 : Index := 0#32
  ![v533.toNat, 128, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v572 : Index := Scalar.indexCast v9
  let c256_229 : Index := 256#32
  let c0_230 : Index := 0#32
  ![v572.toNat, 256, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v611 : Index := Scalar.indexCast v9
  let c384_239 : Index := 384#32
  let c0_240 : Index := 0#32
  ![v611.toNat, 384, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v666 : Index := Scalar.indexCast v9
  let c0_261 : Index := 0#32
  let c256_262 : Index := 256#32
  ![v666.toNat, 0, 256]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v705 : Index := Scalar.indexCast v9
  let c128_271 : Index := 128#32
  let c256_272 : Index := 256#32
  ![v705.toNat, 128, 256]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v744 : Index := Scalar.indexCast v9
  let c256_281 : Index := 256#32
  let c256_282 : Index := 256#32
  ![v744.toNat, 256, 256]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v783 : Index := Scalar.indexCast v9
  let c384_291 : Index := 384#32
  let c256_292 : Index := 256#32
  ![v783.toNat, 384, 256]
def k0_cond3 (i : grid0.Coords) : BitVec 1 :=
  let arg0 : BitVec 32 := BitVec.ofNat 32 (i 0).val
  let c4_i32_317 : BitVec 32 := 4#32
  let c0_i32_318 : BitVec 32 := 0#32
  let v827 : BitVec 1 := Scalar.cmpi .eq c4_i32_317 c0_i32_318
  let c1_i32_319 : BitVec 32 := 1#32
  let v828 : BitVec 32 := Scalar.select v827 c1_i32_319 c4_i32_317
  let v829 : BitVec 32 := Scalar.remsi arg0 v828
  let c0_i32_321 : BitVec 32 := 0#32
  let v831 : BitVec 1 := Scalar.cmpi .slt v829 c0_i32_321
  let c0_i32_322 : BitVec 32 := 0#32
  let v832 : BitVec 1 := Scalar.cmpi .slt v828 c0_i32_322
  let v833 : BitVec 1 := Scalar.xori v831 v832
  let c0_i32_320 : BitVec 32 := 0#32
  let v830 : BitVec 1 := Scalar.cmpi .ne v829 c0_i32_320
  let v834 : BitVec 1 := Scalar.andi v833 v830
  let v835 : BitVec 32 := Scalar.addi v829 v828
  let v836 : BitVec 32 := Scalar.select v834 v835 v829
  let c3_i32 : BitVec 32 := 3#32
  let v837 : BitVec 1 := Scalar.cmpi .eq v836 c3_i32
  let c64_i32_323 : BitVec 32 := 64#32
  let v838 : BitVec 1 := Scalar.cmpi .slt arg0 c64_i32_323
  let v839 : BitVec 1 := Scalar.andi v837 v838
  let v840 : BitVec 32 := Scalar.extui v839
  let c0_i32_324 : BitVec 32 := 0#32
  let v841 : BitVec 1 := Scalar.cmpi .ne v840 c0_i32_324
  v841

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 4 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_16 (i : grid0.Coords) : Fin 4 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_17 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x1x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S16x2048x1024 : Shape := ⟨3, ![16, 2048, 1024]⟩
abbrev S16x2048x512 : Shape := ⟨3, ![16, 2048, 512]⟩
abbrev S16x2048x4x64 : Shape := ⟨4, ![16, 2048, 4, 64]⟩
abbrev S16x2048x4x128 : Shape := ⟨4, ![16, 2048, 4, 128]⟩
abbrev S16x2048x4 : Shape := ⟨3, ![16, 2048, 4]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16x4x64x128 : Shape := ⟨4, ![16, 4, 64, 128]⟩
abbrev S16x4x64 : Shape := ⟨3, ![16, 4, 64]⟩
abbrev S16x4 : Shape := ⟨2, ![16, 4]⟩
abbrev S16x4x2048x64 : Shape := ⟨4, ![16, 4, 2048, 64]⟩
abbrev S16x4x2048x128 : Shape := ⟨4, ![16, 4, 2048, 128]⟩
abbrev S16x4x2048 : Shape := ⟨3, ![16, 4, 2048]⟩
abbrev S2048x2048 : Shape := ⟨2, ![2048, 2048]⟩
abbrev S16x4x2048x1 : Shape := ⟨4, ![16, 4, 2048, 1]⟩
abbrev S16x4x1x2048 : Shape := ⟨4, ![16, 4, 1, 2048]⟩
abbrev S16x4x2048x2048 : Shape := ⟨4, ![16, 4, 2048, 2048]⟩
abbrev S16x4x1 : Shape := ⟨3, ![16, 4, 1]⟩
abbrev S16x4x1x1 : Shape := ⟨4, ![16, 4, 1, 1]⟩
abbrev S4x128 : Shape := ⟨2, ![4, 128]⟩
abbrev S16x2048x4x1 : Shape := ⟨4, ![16, 2048, 4, 1]⟩
abbrev S1x1x4x128 : Shape := ⟨4, ![1, 1, 4, 128]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S16x8 : Shape := ⟨2, ![16, 8]⟩
abbrev S16x8x1 : Shape := ⟨3, ![16, 8, 1]⟩
abbrev S16x8x256 : Shape := ⟨3, ![16, 8, 256]⟩
abbrev S32768x1024 : Shape := ⟨2, ![32768, 1024]⟩
abbrev S16x4x1x64 : Shape := ⟨4, ![16, 4, 1, 64]⟩

abbrev nBuf : Space → Nat
  | .hbm => 182
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x4x64, .f32⟩
  | 3 => ⟨S16x2048x4x64, .f32⟩
  | 4 => ⟨S16x2048x4x128, .f32⟩
  | 5 => ⟨S16x2048x4x128, .f32⟩
  | 6 => ⟨S16x2048x4, .f32⟩
  | 7 => ⟨S16x2048x4, .f32⟩
  | 8 => ⟨S512, .f32⟩
  | 9 => ⟨S1024x1024, .f32⟩
  | 10 => ⟨S1024, .f32⟩
  | 11 => ⟨S1024x4096, .f32⟩
  | 12 => ⟨S4096x1024, .f32⟩
  | 13 => ⟨S1024, .f32⟩
  | 14 => ⟨S_, .f32⟩
  | 15 => ⟨S16x4x64x128, .f32⟩
  | 16 => ⟨S_, .f32⟩
  | 17 => ⟨S16x4x64, .f32⟩
  | 18 => ⟨S_, .f32⟩
  | 19 => ⟨S16x4, .f32⟩
  | 20 => ⟨S16x4x2048x64, .f32⟩
  | 21 => ⟨S16x4x2048x64, .f32⟩
  | 22 => ⟨S16x4x2048x128, .f32⟩
  | 23 => ⟨S16x4x2048, .f32⟩
  | 24 => ⟨S16x4x2048, .f32⟩
  | 25 => ⟨S_, .i1⟩
  | 26 => ⟨S2048x2048, .i1⟩
  | 27 => ⟨S2048x2048, .i32⟩
  | 28 => ⟨S_, .i32⟩
  | 29 => ⟨S2048x2048, .i32⟩
  | 30 => ⟨S2048x2048, .i32⟩
  | 31 => ⟨S2048x2048, .i32⟩
  | 32 => ⟨S2048x2048, .i1⟩
  | 33 => ⟨S_, .i1⟩
  | 34 => ⟨S2048x2048, .i1⟩
  | 35 => ⟨S2048x2048, .i1⟩
  | 36 => ⟨S_, .f32⟩
  | 37 => ⟨S_, .f32⟩
  | 38 => ⟨S16x4x2048, .f32⟩
  | 39 => ⟨S16x4x2048x1, .f32⟩
  | 40 => ⟨S16x4x1x2048, .f32⟩
  | 41 => ⟨S16x4x2048x2048, .f32⟩
  | 42 => ⟨S16x4x2048x2048, .f32⟩
  | 43 => ⟨S16x4x2048x2048, .f32⟩
  | 44 => ⟨S16x4x1x2048, .f32⟩
  | 45 => ⟨S16x4x2048x2048, .f32⟩
  | 46 => ⟨S16x4x2048x2048, .f32⟩
  | 47 => ⟨S_, .f32⟩
  | 48 => ⟨S_, .f32⟩
  | 49 => ⟨S16x4x2048x2048, .i1⟩
  | 50 => ⟨S16x4x2048x2048, .f32⟩
  | 51 => ⟨S16x4x2048x2048, .f32⟩
  | 52 => ⟨S16x4x1, .f32⟩
  | 53 => ⟨S16x4x2048, .f32⟩
  | 54 => ⟨S16x4x2048, .f32⟩
  | 55 => ⟨S_, .f32⟩
  | 56 => ⟨S16x4x2048, .f32⟩
  | 57 => ⟨S16x4x2048, .f32⟩
  | 58 => ⟨S16x4x2048x1, .f32⟩
  | 59 => ⟨S16x4x2048x2048, .f32⟩
  | 60 => ⟨S16x4x2048x2048, .f32⟩
  | 61 => ⟨S16x4x2048x2048, .f32⟩
  | 62 => ⟨S16x4x1, .f32⟩
  | 63 => ⟨S16x4x2048, .f32⟩
  | 64 => ⟨S16x4x2048, .f32⟩
  | 65 => ⟨S16x4x2048, .f32⟩
  | 66 => ⟨S16x4x2048, .f32⟩
  | 67 => ⟨S16x4x2048x2048, .f32⟩
  | 68 => ⟨S16x4x2048x2048, .f32⟩
  | 69 => ⟨S16x4x2048x1, .f32⟩
  | 70 => ⟨S16x4x2048x128, .f32⟩
  | 71 => ⟨S16x4x2048x128, .f32⟩
  | 72 => ⟨S16x4x2048x128, .f32⟩
  | 73 => ⟨S16x4x2048x128, .f32⟩
  | 74 => ⟨S16x4x2048x128, .f32⟩
  | 75 => ⟨S16x4x2048, .f32⟩
  | 76 => ⟨S16x4x2048, .f32⟩
  | 77 => ⟨S_, .f32⟩
  | 78 => ⟨S16x4x2048, .f32⟩
  | 79 => ⟨S16x4x2048, .f32⟩
  | 80 => ⟨S16x4x2048, .f32⟩
  | 81 => ⟨S16x4x2048, .f32⟩
  | 82 => ⟨S16x4x2048, .f32⟩
  | 83 => ⟨S16x4x2048, .f32⟩
  | 84 => ⟨S16x4x2048x1, .f32⟩
  | 85 => ⟨S16x4x2048x128, .f32⟩
  | 86 => ⟨S16x4x2048x128, .f32⟩
  | 87 => ⟨S16x4x1, .f32⟩
  | 88 => ⟨S16x4, .f32⟩
  | 89 => ⟨S16x4x1, .f32⟩
  | 90 => ⟨S16x4x2048, .f32⟩
  | 91 => ⟨S16x4x2048, .f32⟩
  | 92 => ⟨S16x4x2048, .f32⟩
  | 93 => ⟨S16x4x1, .f32⟩
  | 94 => ⟨S16x4x2048, .f32⟩
  | 95 => ⟨S16x4x2048, .f32⟩
  | 96 => ⟨S16x4x2048, .f32⟩
  | 97 => ⟨S16x4x1, .f32⟩
  | 98 => ⟨S16x4, .f32⟩
  | 99 => ⟨S16x4, .f32⟩
  | 100 => ⟨S16x4, .f32⟩
  | 101 => ⟨S16x4, .f32⟩
  | 102 => ⟨S16x4x1x1, .f32⟩
  | 103 => ⟨S16x4x64x128, .f32⟩
  | 104 => ⟨S16x4x64x128, .f32⟩
  | 105 => ⟨S16x4x2048x1, .f32⟩
  | 106 => ⟨S16x4x2048x64, .f32⟩
  | 107 => ⟨S16x4x2048x64, .f32⟩
  | 108 => ⟨S16x4x64x128, .f32⟩
  | 109 => ⟨S16x4x64x128, .f32⟩
  | 110 => ⟨S16x4x1, .f32⟩
  | 111 => ⟨S16x4x64, .f32⟩
  | 112 => ⟨S16x4x64, .f32⟩
  | 113 => ⟨S16x4x64, .f32⟩
  | 114 => ⟨S16x4x64, .f32⟩
  | 115 => ⟨S16x2048x4x128, .f32⟩
  | 116 => ⟨S16x2048x4x128, .f32⟩
  | 117 => ⟨S4x128, .f32⟩
  | 118 => ⟨S16x2048x4x128, .f32⟩
  | 119 => ⟨S_, .f32⟩
  | 120 => ⟨S16x2048x4, .f32⟩
  | 121 => ⟨S16x2048x4x1, .f32⟩
  | 122 => ⟨S_, .f32⟩
  | 123 => ⟨S16x2048x4x1, .f32⟩
  | 124 => ⟨S16x2048x4x1, .f32⟩
  | 125 => ⟨S_, .f32⟩
  | 126 => ⟨S16x2048x4x1, .f32⟩
  | 127 => ⟨S16x2048x4x1, .f32⟩
  | _ => ⟨S16x2048x1024, .f32⟩

abbrev hbmTy0_1 (i : Nat) : BufTy := match i % 128 with
  | 0 => ⟨S16x2048x4x1, .f32⟩
  | 1 => ⟨S16x2048x4x128, .f32⟩
  | 2 => ⟨S16x2048x4x128, .f32⟩
  | 3 => ⟨S1x1x4x128, .f32⟩
  | 4 => ⟨S16x2048x4x128, .f32⟩
  | 5 => ⟨S16x2048x4x128, .f32⟩
  | 6 => ⟨S16x2048x512, .f32⟩
  | 7 => ⟨S16x2048x1024, .f32⟩
  | 8 => ⟨S16x2048x1024, .f32⟩
  | 9 => ⟨S16x2048x1024, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S16x2048x4096, .f32⟩
  | 27 => ⟨S_, .f32⟩
  | 28 => ⟨S16x2048x4096, .f32⟩
  | 29 => ⟨S16x2048x4096, .f32⟩
  | 30 => ⟨S16x2048x4096, .f32⟩
  | 31 => ⟨S16x2048x1024, .f32⟩
  | 32 => ⟨S16x2048x1024, .f32⟩
  | 33 => ⟨S16x2048x1024, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S_, .f32⟩
  | 41 => ⟨S16x2048x1, .f32⟩
  | 42 => ⟨S16x2048x1, .f32⟩
  | 43 => ⟨S16x2048x1, .f32⟩
  | 44 => ⟨S16x2048x1024, .f32⟩
  | 45 => ⟨S16x2048x1024, .f32⟩
  | 46 => ⟨S1x1x1024, .f32⟩
  | 47 => ⟨S16x2048x1024, .f32⟩
  | 48 => ⟨S16x2048x1024, .f32⟩
  | 49 => ⟨S16x8, .f32⟩
  | 50 => ⟨S16x8x1, .f32⟩
  | 51 => ⟨S16x8x256, .f32⟩
  | 52 => ⟨S32768x1024, .f32⟩
  | 53 => ⟨S16x4x1x64, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v9 : Ref sig .tc := ⟨.hbm, 35, rfl⟩
abbrev main_call1_call0_cst : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_4 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_5 : Ref sig .tc := ⟨.hbm, 119, rfl⟩
abbrev main_v85 : Ref sig .tc := ⟨.hbm, 120, rfl⟩
abbrev main_v86 : Ref sig .tc := ⟨.hbm, 121, rfl⟩
abbrev main_cst_6 : Ref sig .tc := ⟨.hbm, 122, rfl⟩
abbrev main_v87 : Ref sig .tc := ⟨.hbm, 123, rfl⟩
abbrev main_v88 : Ref sig .tc := ⟨.hbm, 124, rfl⟩
abbrev main_cst_7 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_8 : Ref sig .tc := ⟨.hbm, 139, rfl⟩
abbrev main_v102 : Ref sig .tc := ⟨.hbm, 140, rfl⟩
abbrev main_v103 : Ref sig .tc := ⟨.hbm, 141, rfl⟩
abbrev main_cst_9 : Ref sig .tc := ⟨.hbm, 142, rfl⟩
abbrev main_v104 : Ref sig .tc := ⟨.hbm, 143, rfl⟩
abbrev main_v105 : Ref sig .tc := ⟨.hbm, 144, rfl⟩
abbrev main_cst_10 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_11 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_12 : Ref sig .tc := ⟨.hbm, 162, rfl⟩
abbrev main_v121 : Ref sig .tc := ⟨.hbm, 163, rfl⟩
abbrev main_v122 : Ref sig .tc := ⟨.hbm, 164, rfl⟩
abbrev main_cst_13 : Ref sig .tc := ⟨.hbm, 165, rfl⟩
abbrev main_v123 : Ref sig .tc := ⟨.hbm, 166, rfl⟩
abbrev main_v124 : Ref sig .tc := ⟨.hbm, 167, rfl⟩
abbrev main_cst_14 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩

abbrev nD : Nat := 1
abbrev τ : Topo := Topo.v7x

variable {F : FTy → Type} [FloatOps F]
-- ==== Kernel2.lean ====
abbrev S128x8x1024 : Shape := ⟨3, ![128, 8, 1024]⟩
abbrev S128x8x512 : Shape := ⟨3, ![128, 8, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x512 : Shape := ⟨2, ![1024, 512]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩

abbrev nBuf : Space → Nat
  | .hbm => 22
  | .vmem => 14
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .f32⟩
  | .hbm, ⟨9, _⟩ => ⟨S1024x512, .f32⟩
  | .hbm, ⟨10, _⟩ => ⟨S1024x512, .bf16⟩
  | .hbm, ⟨11, _⟩ => ⟨S1024x512, .f32⟩
  | .hbm, ⟨12, _⟩ => ⟨S1024x512, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S128x8x1024 : Shape := ⟨3, ![128, 8, 1024]⟩
abbrev S128x8x512 : Shape := ⟨3, ![128, 8, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4096 : Shape := ⟨3, ![128, 8, 4096]⟩

abbrev nBuf : Space → Nat
  | .hbm => 51
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S128x8x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S128x8x4096, .f32⟩
  | .hbm, ⟨28, _⟩ => ⟨S_, .f32⟩
  | .hbm, ⟨29, _⟩ => ⟨S128x8x4096, .f32⟩
  | .hbm, ⟨30, _⟩ => ⟨S128x8x4096, .f32⟩
  | .hbm, ⟨31, _⟩ => ⟨S128x8x4096, .f32⟩
  | .hbm, ⟨32, _⟩ => ⟨S128x8x1024, .f32⟩
  | .hbm, ⟨33, _⟩ => ⟨S128x8x1024, .f32⟩
  | .hbm, ⟨34, _⟩ => ⟨S128x8x1024, .f32⟩
  | .hbm, ⟨35, _⟩ => ⟨S_, .f32⟩
  | .hbm, ⟨36, _⟩ => ⟨S128x8, .f32⟩
  | .hbm, ⟨37, _⟩ => ⟨S128x8x1, .f32⟩
  | .hbm, ⟨38, _⟩ => ⟨S_, .f32⟩
  | .hbm, ⟨39, _⟩ => ⟨S128x8x1, .f32⟩
  | .hbm, ⟨40, _⟩ => ⟨S128x8x1, .f32⟩
  | .hbm, ⟨41, _⟩ => ⟨S_, .f32⟩
  | .hbm, ⟨42, _⟩ => ⟨S128x8x1, .f32⟩
  | .hbm, ⟨43, _⟩ => ⟨S128x8x1, .f32⟩
  | .hbm, ⟨44, _⟩ => ⟨S128x8x1, .f32⟩
  | .hbm, ⟨45, _⟩ => ⟨S128x8x1024, .f32⟩
  | .hbm, ⟨46, _⟩ => ⟨S128x8x1024, .f32⟩
  | .hbm, ⟨47, _⟩ => ⟨S1x1x1024, .f32⟩
  | .hbm, ⟨48, _⟩ => ⟨S128x8x1024, .f32⟩
  | .hbm, ⟨49, _⟩ => ⟨S128x8x1024, .f32⟩
  | .hbm, ⟨50, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel3.lean ====
abbrev S128x8x512 : Shape := ⟨3, ![128, 8, 512]⟩
abbrev S128x8x2x64 : Shape := ⟨4, ![128, 8, 2, 64]⟩
abbrev S128x128x2x64 : Shape := ⟨4, ![128, 128, 2, 64]⟩
abbrev S2x32x144 : Shape := ⟨3, ![2, 32, 144]⟩
abbrev S8 : Shape := ⟨1, ![8]⟩
abbrev S512 : Shape := ⟨1, ![512]⟩
abbrev S128x8x4x64 : Shape := ⟨4, ![128, 8, 4, 64]⟩
abbrev S128x8x4x128 : Shape := ⟨4, ![128, 8, 4, 128]⟩
abbrev S128x8x4 : Shape := ⟨3, ![128, 8, 4]⟩
abbrev S128x4x64x128 : Shape := ⟨4, ![128, 4, 64, 128]⟩
abbrev S128x4x64 : Shape := ⟨3, ![128, 4, 64]⟩
abbrev S128x4 : Shape := ⟨2, ![128, 4]⟩
abbrev S1024x128 : Shape := ⟨2, ![1024, 128]⟩
abbrev S1024x256 : Shape := ⟨2, ![1024, 256]⟩
abbrev S1024x512 : Shape := ⟨2, ![1024, 512]⟩
abbrev S1024x4 : Shape := ⟨2, ![1024, 4]⟩
abbrev S1024x8 : Shape := ⟨2, ![1024, 8]⟩
abbrev S_ : Shape := ⟨0, ![]⟩
abbrev S8x1 : Shape := ⟨2, ![8, 1]⟩
abbrev S8x8 : Shape := ⟨2, ![8, 8]⟩
abbrev S2x32x1 : Shape := ⟨3, ![2, 32, 1]⟩
abbrev S128x128 : Shape := ⟨2, ![128, 128]⟩
abbrev S128x128x128 : Shape := ⟨3, ![128, 128, 128]⟩
abbrev S1x512 : Shape := ⟨2, ![1, 512]⟩
abbrev S128x256 : Shape := ⟨2, ![128, 256]⟩
abbrev S128x512 : Shape := ⟨2, ![128, 512]⟩
abbrev S16x128x128 : Shape := ⟨3, ![16, 128, 128]⟩
abbrev S16x4x64x128 : Shape := ⟨4, ![16, 4, 64, 128]⟩
abbrev S16x256 : Shape := ⟨2, ![16, 256]⟩
abbrev S16x128 : Shape := ⟨2, ![16, 128]⟩
abbrev S16x8x128 : Shape := ⟨3, ![16, 8, 128]⟩
abbrev S16x120x128 : Shape := ⟨3, ![16, 120, 128]⟩
abbrev S16x144x128 : Shape := ⟨3, ![16, 144, 128]⟩
abbrev S16x8x512 : Shape := ⟨3, ![16, 8, 512]⟩
abbrev S128x1024 : Shape := ⟨2, ![128, 1024]⟩
abbrev S16x1x128 : Shape := ⟨3, ![16, 1, 128]⟩
abbrev S16x1x256 : Shape := ⟨3, ![16, 1, 256]⟩
abbrev S16x8x256 : Shape := ⟨3, ![16, 8, 256]⟩
abbrev S16x8x64 : Shape := ⟨3, ![16, 8, 64]⟩
abbrev S16x32x64 : Shape := ⟨3, ![16, 32, 64]⟩
abbrev S16x32x128 : Shape := ⟨3, ![16, 32, 128]⟩
abbrev S16x32x144 : Shape := ⟨3, ![16, 32, 144]⟩
abbrev S1x32x144 : Shape := ⟨3, ![1, 32, 144]⟩
abbrev S32x144 : Shape := ⟨2, ![32, 144]⟩
abbrev S1x32x1 : Shape := ⟨3, ![1, 32, 1]⟩
abbrev S32x1 : Shape := ⟨2, ![32, 1]⟩
abbrev S16x32 : Shape := ⟨2, ![16, 32]⟩
abbrev S16x32x1 : Shape := ⟨3, ![16, 32, 1]⟩
abbrev S128x64 : Shape := ⟨2, ![128, 64]⟩
abbrev S16x1x64x128 : Shape := ⟨4, ![16, 1, 64, 128]⟩
abbrev S16x64x128 : Shape := ⟨3, ![16, 64, 128]⟩
abbrev S1x128 : Shape := ⟨2, ![1, 128]⟩
abbrev S128x1 : Shape := ⟨2, ![128, 1]⟩
abbrev S16x1x8x64 : Shape := ⟨4, ![16, 1, 8, 64]⟩
abbrev S16x4x8x64 : Shape := ⟨4, ![16, 4, 8, 64]⟩
abbrev S64x128 : Shape := ⟨2, ![64, 128]⟩
abbrev S16x64 : Shape := ⟨2, ![16, 64]⟩
abbrev S16x1x8 : Shape := ⟨3, ![16, 1, 8]⟩
abbrev S16x1x8x1 : Shape := ⟨4, ![16, 1, 8, 1]⟩
abbrev S1x64 : Shape := ⟨2, ![1, 64]⟩
abbrev S128 : Shape := ⟨1, ![128]⟩
abbrev S16x8x1 : Shape := ⟨3, ![16, 8, 1]⟩
abbrev S16x1x1 : Shape := ⟨3, ![16, 1, 1]⟩
abbrev S16x1 : Shape := ⟨2, ![16, 1]⟩

abbrev nBuf : Space → Nat
  | .hbm => 54
  | .vmem => 40
  | .smem => 0
  | _ => 0

abbrev bufTy : (tb : Table) → Fin (tcTables nBuf tb) → BufTy
  | .hbm, ⟨0, _⟩ => ⟨S128x8x512, .f32⟩
  | .hbm, ⟨1, _⟩ => ⟨S128x8x2x64, .f32⟩
  | .hbm, ⟨2, _⟩ => ⟨S128x8x2x64, .f32⟩
  | .hbm, ⟨3, _⟩ => ⟨S128x128x2x64, .f32⟩
  | .hbm, ⟨4, _⟩ => ⟨S128x128x2x64, .f32⟩
  | .hbm, ⟨5, _⟩ => ⟨S2x32x144, .f32⟩
  | .hbm, ⟨6, _⟩ => ⟨S8, .f32⟩
  | .hbm, ⟨7, _⟩ => ⟨S512, .f32⟩
  | .hbm, ⟨8, _⟩ => ⟨S128x8x4x64, .f32⟩
  | .hbm, ⟨9, _⟩ => ⟨S128x8x4x64, .f32⟩
  | .hbm, ⟨10, _⟩ => ⟨S128x8x4x128, .f32⟩
  | .hbm, ⟨11, _⟩ => ⟨S128x8x4x128, .f32⟩
  | .hbm, ⟨12, _⟩ => ⟨S128x8x4, .f32⟩
  | .hbm, ⟨13, _⟩ => ⟨S128x8x4, .f32⟩
  | .hbm, ⟨14, _⟩ => ⟨S512, .f32⟩
  | .hbm, ⟨15, _⟩ => ⟨S128x4x64x128, .f32⟩
  | .hbm, ⟨16, _⟩ => ⟨S128x4x64, .f32⟩
  | .hbm, ⟨17, _⟩ => ⟨S128x4, .f32⟩
  | .hbm, ⟨18, _⟩ => ⟨S1024x128, .f32⟩
  | .hbm, ⟨19, _⟩ => ⟨S1024x128, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x512, .f32⟩
  | .hbm, ⟨24, _⟩ => ⟨S1024x512, .bf16⟩
  | .hbm, ⟨25, _⟩ => ⟨S1024x4, .f32⟩
  | .hbm, ⟨26, _⟩ => ⟨S1024x4, .f32⟩
  | .hbm, ⟨27, _⟩ => ⟨S1024x8, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S8x1, .f32⟩
  | .hbm, ⟨32, _⟩ => ⟨S8x8, .f32⟩
  | .hbm, ⟨33, _⟩ => ⟨S2x32x1, .f32⟩
  | .hbm, ⟨34, _⟩ => ⟨S_, .i32⟩
  | .hbm, ⟨35, _⟩ => ⟨S_, .f32⟩
  | .hbm, ⟨36, _⟩ => ⟨S128x128, .f32⟩
  | .hbm, ⟨37, _⟩ => ⟨S1024x512, .f32⟩
  | .hbm, ⟨38, _⟩ => ⟨S1024x512, .bf16⟩
  | .hbm, ⟨39, _⟩ => ⟨S128x128x128, .f32⟩
  | .hbm, ⟨40, _⟩ => ⟨S128x128x128, .f32⟩
  | .hbm, ⟨41, _⟩ => ⟨S1x512, .f32⟩
  | .hbm, ⟨42, _⟩ => ⟨S1024x512, .f32⟩
  | .hbm, ⟨43, _⟩ => ⟨S1024x512, .bf16⟩
  | .hbm, ⟨44, _⟩ => ⟨S1024x512, .f32⟩
  | .hbm, ⟨45, _⟩ => ⟨S1x512, .f32⟩
  | .hbm, ⟨46, _⟩ => ⟨S128x256, .f32⟩
  | .hbm, ⟨47, _⟩ => ⟨S1024x512, .bf16⟩
  | .hbm, ⟨48, _⟩ => ⟨S128x128x128, .f32⟩
  | .hbm, ⟨49, _⟩ => ⟨S128x128x128, .f32⟩
  | .hbm, ⟨50, _⟩ => ⟨S1024x512, .bf16⟩
  | .hbm, ⟨51, _⟩ => ⟨S128x4x64x128, .f32⟩
  | .hbm, ⟨52, _⟩ => ⟨S128x256, .f32⟩
  | .hbm, ⟨53, _⟩ => ⟨S128x128, .f32⟩
  | .local _ .vmem, ⟨0, _⟩ => ⟨S128x512, .bf16⟩
  | .local _ .vmem, ⟨1, _⟩ => ⟨S128x512, .bf16⟩
  | .local _ .vmem, ⟨2, _⟩ => ⟨S128x256, .f32⟩
  | .local _ .vmem, ⟨3, _⟩ => ⟨S128x256, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .f32⟩
  | .local _ .vmem, ⟨8, _⟩ => ⟨S2x32x144, .f32⟩
  | .local _ .vmem, ⟨9, _⟩ => ⟨S2x32x1, .f32⟩
  | .local _ .vmem, ⟨10, _⟩ => ⟨S1x512, .f32⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .vmem, ⟨19, _⟩ => ⟨S1x512, .f32⟩
  | .local _ .vmem, ⟨20, _⟩ => ⟨S16x4x64x128, .f32⟩
  | .local _ .vmem, ⟨21, _⟩ => ⟨S16x4x64x128, .f32⟩
  | .local _ .vmem, ⟨22, _⟩ => ⟨S16x256, .f32⟩
  | .local _ .vmem, ⟨23, _⟩ => ⟨S16x256, .f32⟩
  | .local _ .vmem, ⟨24, _⟩ => ⟨S16x128, .f32⟩
  | .local _ .vmem, ⟨25, _⟩ => ⟨S16x128, .f32⟩
  | .local _ .vmem, ⟨26, _⟩ => ⟨S128x512, .bf16⟩
  | .local _ .vmem, ⟨27, _⟩ => ⟨S128x512, .bf16⟩
  | .local _ .vmem, ⟨28, _⟩ => ⟨S16x128x128, .f32⟩
  | .local _ .vmem, ⟨29, _⟩ => ⟨S16x128x128, .f32⟩
  | .local _ .vmem, ⟨30, _⟩ => ⟨S16x128x128, .f32⟩
  | .local _ .vmem, ⟨31, _⟩ => ⟨S16x128x128, .f32⟩
  | .local _ .vmem, ⟨32, _⟩ => ⟨S128x512, .bf16⟩
  | .local _ .vmem, ⟨33, _⟩ => ⟨S128x512, .bf16⟩
  | .local _ .vmem, ⟨34, _⟩ => ⟨S16x4x64x128, .f32⟩
  | .local _ .vmem, ⟨35, _⟩ => ⟨S16x4x64x128, .f32⟩
  | .local _ .vmem, ⟨36, _⟩ => ⟨S16x256, .f32⟩
  | .local _ .vmem, ⟨37, _⟩ => ⟨S16x256, .f32⟩
  | .local _ .vmem, ⟨38, _⟩ => ⟨S16x128, .f32⟩
  | .local _ .vmem, ⟨39, _⟩ => ⟨S16x128, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_call0_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_call1_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25_0 : Ref sig .tc := ⟨.hbm, 47, rfl⟩
abbrev main_v25_1 : Ref sig .tc := ⟨.hbm, 48, rfl⟩
abbrev main_v25_2 : Ref sig .tc := ⟨.hbm, 49, rfl⟩
abbrev main_v25_3 : Ref sig .tc := ⟨.hbm, 50, rfl⟩
abbrev main_v25_4 : Ref sig .tc := ⟨.hbm, 51, rfl⟩
abbrev main_v25_5 : Ref sig .tc := ⟨.hbm, 52, rfl⟩
abbrev main_v25_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x32x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x4x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x4x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S128x8x512 : Shape := ⟨3, ![128, 8, 512]⟩
abbrev S128x8x2x64 : Shape := ⟨4, ![128, 8, 2, 64]⟩
abbrev S128x128x2x64 : Shape := ⟨4, ![128, 128, 2, 64]⟩
abbrev S2x32x144 : Shape := ⟨3, ![2, 32, 144]⟩
abbrev S8 : Shape := ⟨1, ![8]⟩
abbrev S512 : Shape := ⟨1, ![512]⟩
abbrev S128x8x4x64 : Shape := ⟨4, ![128, 8, 4, 64]⟩
abbrev S128x8x4x128 : Shape := ⟨4, ![128, 8, 4, 128]⟩
abbrev S128x8x4 : Shape := ⟨3, ![128, 8, 4]⟩
abbrev S128x4x64x128 : Shape := ⟨4, ![128, 4, 64, 128]⟩
abbrev S128x4x64 : Shape := ⟨3, ![128, 4, 64]⟩
abbrev S128x4 : Shape := ⟨2, ![128, 4]⟩
abbrev S128x136x2x64 : Shape := ⟨4, ![128, 136, 2, 64]⟩
abbrev S128x128x128 : Shape := ⟨3, ![128, 128, 128]⟩

abbrev nBuf : Space → Nat
  | .hbm => 24
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x8x2x64, .f32⟩
  | .hbm, ⟨2, _⟩ => ⟨S128x8x2x64, .f32⟩
  | .hbm, ⟨3, _⟩ => ⟨S128x128x2x64, .f32⟩
  | .hbm, ⟨4, _⟩ => ⟨S128x128x2x64, .f32⟩
  | .hbm, ⟨5, _⟩ => ⟨S2x32x144, .f32⟩
  | .hbm, ⟨6, _⟩ => ⟨S8, .f32⟩
  | .hbm, ⟨7, _⟩ => ⟨S512, .f32⟩
  | .hbm, ⟨8, _⟩ => ⟨S128x8x4x64, .f32⟩
  | .hbm, ⟨9, _⟩ => ⟨S128x8x4x64, .f32⟩
  | .hbm, ⟨10, _⟩ => ⟨S128x8x4x128, .f32⟩
  | .hbm, ⟨11, _⟩ => ⟨S128x8x4x128, .f32⟩
  | .hbm, ⟨12, _⟩ => ⟨S128x8x4, .f32⟩
  | .hbm, ⟨13, _⟩ => ⟨S128x8x4, .f32⟩
  | .hbm, ⟨14, _⟩ => ⟨S512, .f32⟩
  | .hbm, ⟨15, _⟩ => ⟨S128x4x64x128, .f32⟩
  | .hbm, ⟨16, _⟩ => ⟨S128x4x64, .f32⟩
  | .hbm, ⟨17, _⟩ => ⟨S128x4, .f32⟩
  | .hbm, ⟨18, _⟩ => ⟨S128x136x2x64, .f32⟩
  | .hbm, ⟨19, _⟩ => ⟨S128x136x2x64, .f32⟩
  | .hbm, ⟨20, _⟩ => ⟨S128x128x2x64, .f32⟩
  | .hbm, ⟨21, _⟩ => ⟨S128x128x128, .f32⟩
  | .hbm, ⟨22, _⟩ => ⟨S128x128x2x64, .f32⟩
  | .hbm, ⟨23, _⟩ => ⟨S128x128x128, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Proof.Runs.lean ====
module

public import proofs.«01_k».proof.Proof.Gen.KernelIdeal.Frame
public import proofs.«01_k».proof.Proof.Gen.KernelIdeal.Skeleton
public import Idealize.ShloMosaic.Lib.Pipeline.Covers

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body on any staging buffers: the branch conditions, the places of the scratch slots, and what a run of the
body is. -/

/-- The first point: the scratch that holds the mixed rows is cleared. -/
abbrev atFirst (i : grid0.Coords) : Prop := (Scalar.cmpi .ne (Scalar.extui (Scalar.cmpi .eq (BitVec.ofNat 32 (i 0).val) 0#32)) 0#32) = 1#1
/-- The first tile of a sequence: the carried state is cleared. -/
abbrev atStart (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1
/-- The last tile of a sequence: the state is written out. -/
abbrev atEnd (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem atStart_iff : ∀ t : Fin cfg0.N, atStart (grid0.coords t) ↔ t.val % 4 = 0 :=
  (by decide +kernel : ∀ t : Fin grid0.N, atStart (grid0.coords t) ↔ t.val % 4 = 0)
theorem atEnd_iff : ∀ t : Fin cfg0.N, atEnd (grid0.coords t) ↔ (t.val % 4 = 3) :=
  (by decide +kernel : ∀ t : Fin grid0.N, atEnd (grid0.coords t) ↔ (t.val % 4 = 3))

theorem off1_eq (i : grid0.Coords) : k0_off1 i = ![1 - (i 0).val % 2, 0, 0] := by
  obtain ⟨t, rfl⟩ := grid0.coords_surjective i
  exact (by decide +kernel : ∀ t : Fin grid0.N, k0_off1 (grid0.coords t) = ![1 - (grid0.coords t 0).val % 2, 0, 0]) t
instance closedOff1 (i : grid0.Coords) : ClosedOff (k0_off1 i) := ⟨![1 - (i 0).val % 2, 0, 0], off1_eq i⟩
theorem off2_eq (i : grid0.Coords) : k0_off2 i = ![(i 0).val % 2, 0, 0] := by
  obtain ⟨t, rfl⟩ := grid0.coords_surjective i
  exact (by decide +kernel : ∀ t : Fin grid0.N, k0_off2 (grid0.coords t) = ![(grid0.coords t 0).val % 2, 0, 0]) t
instance closedOff2 (i : grid0.Coords) : ClosedOff (k0_off2 i) := ⟨![(i 0).val % 2, 0, 0], off2_eq i⟩
theorem off3_eq (i : grid0.Coords) : k0_off3 i = ![(i 0).val % 2, 128, 0] := by
  obtain ⟨t, rfl⟩ := grid0.coords_surjective i
  exact (by decide +kernel : ∀ t : Fin grid0.N, k0_off3 (grid0.coords t) = ![(grid0.coords t 0).val % 2, 128, 0]) t
instance closedOff3 (i : grid0.Coords) : ClosedOff (k0_off3 i) := ⟨![(i 0).val % 2, 128, 0], off3_eq i⟩
theorem off4_eq (i : grid0.Coords) : k0_off4 i = ![(i 0).val % 2, 256, 0] := by
  obtain ⟨t, rfl⟩ := grid0.coords_surjective i
  exact (by decide +kernel : ∀ t : Fin grid0.N, k0_off4 (grid0.coords t) = ![(grid0.coords t 0).val % 2, 256, 0]) t
instance closedOff4 (i : grid0.Coords) : ClosedOff (k0_off4 i) := ⟨![(i 0).val % 2, 256, 0], off4_eq i⟩
theorem off5_eq (i : grid0.Coords) : k0_off5 i = ![(i 0).val % 2, 384, 0] := by
  obtain ⟨t, rfl⟩ := grid0.coords_surjective i
  exact (by decide +kernel : ∀ t : Fin grid0.N, k0_off5 (grid0.coords t) = ![(grid0.coords t 0).val % 2, 384, 0]) t
instance closedOff5 (i : grid0.Coords) : ClosedOff (k0_off5 i) := ⟨![(i 0).val % 2, 384, 0], off5_eq i⟩
theorem off6_eq (i : grid0.Coords) : k0_off6 i = ![(i 0).val % 2, 0, 256] := by
  obtain ⟨t, rfl⟩ := grid0.coords_surjective i
  exact (by decide +kernel : ∀ t : Fin grid0.N, k0_off6 (grid0.coords t) = ![(grid0.coords t 0).val % 2, 0, 256]) t
instance closedOff6 (i : grid0.Coords) : ClosedOff (k0_off6 i) := ⟨![(i 0).val % 2, 0, 256], off6_eq i⟩
theorem off7_eq (i : grid0.Coords) : k0_off7 i = ![(i 0).val % 2, 128, 256] := by
  obtain ⟨t, rfl⟩ := grid0.coords_surjective i
  exact (by decide +kernel : ∀ t : Fin grid0.N, k0_off7 (grid0.coords t) = ![(grid0.coords t 0).val % 2, 128, 256]) t
instance closedOff7 (i : grid0.Coords) : ClosedOff (k0_off7 i) := ⟨![(i 0).val % 2, 128, 256], off7_eq i⟩
theorem off8_eq (i : grid0.Coords) : k0_off8 i = ![(i 0).val % 2, 256, 256] := by
  obtain ⟨t, rfl⟩ := grid0.coords_surjective i
  exact (by decide +kernel : ∀ t : Fin grid0.N, k0_off8 (grid0.coords t) = ![(grid0.coords t 0).val % 2, 256, 256]) t
instance closedOff8 (i : grid0.Coords) : ClosedOff (k0_off8 i) := ⟨![(i 0).val % 2, 256, 256], off8_eq i⟩
theorem off9_eq (i : grid0.Coords) : k0_off9 i = ![(i 0).val % 2, 384, 256] := by
  obtain ⟨t, rfl⟩ := grid0.coords_surjective i
  exact (by decide +kernel : ∀ t : Fin grid0.N, k0_off9 (grid0.coords t) = ![(grid0.coords t 0).val % 2, 384, 256]) t
instance closedOff9 (i : grid0.Coords) : ClosedOff (k0_off9 i) := ⟨![(i 0).val % 2, 384, 256], off9_eq i⟩

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

/-- A run of the body at a point: the stores it makes into each buffer it writes (last first), and the proof that, the inputs held at
their contents, the outputs 15 to 17 and the scratch at theirs, the body ends with those stores made and the inputs as they were. -/
structure BodyRun where
  L14 : List (View.Piece (Elt F) S512x1024 .f32)
  L15 : List (View.Piece (Elt F) S1x4x64x128 .f32)
  L16 : List (View.Piece (Elt F) S1x4x1x64 .f32)
  L17 : List (View.Piece (Elt F) S1x8x256 .f32)
  LS0 : List (View.Piece (Elt F) S2x512x512 .bf16)
  LS1 : List (View.Piece (Elt F) S4x144x64 .f32)
  LS2 : List (View.Piece (Elt F) S8x256 .f32)
  run : ∀ (xi15 : Vec F S1x4x64x128 .f32) (xi16 : Vec F S1x4x1x64 .f32) (xi17 : Vec F S1x8x256 .f32) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xi15 ∗ owns (c : Thread nD τ) arg17 fullShare xi16 ∗ owns (c : Thread nD τ) arg18 fullShare xi17 ∗ owns (c : Thread nD τ) arg19 fullShare xs0 ∗ owns (c : Thread nD τ) arg20 fullShare xs1 ∗ owns (c : Thread nD τ) arg21 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, (arg16.view.loc (c : Thread nD τ) ↦[arg16.view.set]{fullShare} f) ∗ ⌜f = arg16.view.writes (Elt F) (harg16.unread xi15) L15⌝) ∗ (∃ f, (arg17.view.loc (c : Thread nD τ) ↦[arg17.view.set]{fullShare} f) ∗ ⌜f = arg17.view.writes (Elt F) (harg17.unread xi16) L16⌝) ∗ (∃ f, (arg18.view.loc (c : Thread nD τ) ↦[arg18.view.set]{fullShare} f) ∗ ⌜f = arg18.view.writes (Elt F) (harg18.unread xi17) L17⌝) ∗ (∃ f, (arg19.view.loc (c : Thread nD τ) ↦[arg19.view.set]{fullShare} arg19.view.writes (Elt F) f LS0) ∗ ⌜¬atFirst i → f = harg19.unread xs0⌝) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2)) -∗ K ⟨⟩))
      ⊢ wp frame (wpE (defs₀ (F := F)) Variants.none c none) E (cc0_mlstm_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K

end Cert.KernelIdeal.Body

end
-- ==== Proof.RunA.lean ====
module

public import proofs.«01_k».proof.Proof.Runs

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

set_option maxHeartbeats 0 in
/-- The run at the first point. -/
noncomputable def runA (hc0 : atFirst i) (hc1 : atStart i) (hc2 : ¬atEnd i) :
    BodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 := by
  refine ⟨?_, [], [], [], ?_, ?_, ?_, fun xi15 xi16 xi17 E K => ?run⟩
  case run =>
    simp only [cc0_mlstm_mlp_eq_skeleton]; unfold cc0_mlstm_mlp_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hfs0; obtain rfl := harg20.eq_unread hfs1; obtain rfl := harg21.eq_unread hfs2
    sl_exec (disch := first | sl_exact hc0 | sl_exact hc1 | sl_exact hc2)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; iexact H14
    isplitl [H15]
    · iexists _; isplitl [H15]
      · iexact H15
      · ipureintro; rfl
    isplitl [H16]
    · iexists _; isplitl [H16]
      · iexact H16
      · ipureintro; rfl
    isplitl [H17]
    · iexists _; isplitl [H17]
      · iexact H17
      · ipureintro; rfl
    isplitl [HS0]
    · iexists _; isplitl [HS0]
      · iexact HS0
      · ipureintro; exact fun h => absurd hc0 h
    isplitl [HS1]; · iexists _; iexact HS1
    iexists _; iexact HS2

end Cert.KernelIdeal.Body

end
-- ==== Proof.RunB.lean ====
module

public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

set_option maxHeartbeats 0 in
/-- The run at a point inside a sequence. -/
noncomputable def runB (hc0 : ¬atFirst i) (hc1 : ¬atStart i) (hc2 : ¬atEnd i) :
    BodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 := by
  refine ⟨?_, [], [], [], ?_, ?_, ?_, fun xi15 xi16 xi17 E K => ?run⟩
  case run =>
    simp only [cc0_mlstm_mlp_eq_skeleton]; unfold cc0_mlstm_mlp_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hfs0; obtain rfl := harg20.eq_unread hfs1; obtain rfl := harg21.eq_unread hfs2
    sl_exec (disch := first | sl_exact hc0 | sl_exact hc1 | sl_exact hc2)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; iexact H14
    isplitl [H15]
    · iexists _; isplitl [H15]
      · iexact H15
      · ipureintro; rfl
    isplitl [H16]
    · iexists _; isplitl [H16]
      · iexact H16
      · ipureintro; rfl
    isplitl [H17]
    · iexists _; isplitl [H17]
      · iexact H17
      · ipureintro; rfl
    isplitl [HS0]
    · iexists _; isplitl [HS0]
      · iexact HS0
      · ipureintro; exact fun _ => rfl
    isplitl [HS1]; · iexists _; iexact HS1
    iexists _; iexact HS2

end Cert.KernelIdeal.Body

end
-- ==== Proof.RunC.lean ====
module

public import proofs.«01_k».proof.Proof.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

set_option maxHeartbeats 0 in
/-- The run at the last point of a sequence. -/
noncomputable def runC (hc0 : ¬atFirst i) (hc1 : ¬atStart i) (hc2 : atEnd i) :
    BodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 := by
  refine ⟨?_, ?_, ?_, ?_, ?_, ?_, ?_, fun xi15 xi16 xi17 E K => ?run⟩
  case run =>
    simp only [cc0_mlstm_mlp_eq_skeleton]; unfold cc0_mlstm_mlp_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hfs0; obtain rfl := harg20.eq_unread hfs1; obtain rfl := harg21.eq_unread hfs2
    sl_exec (disch := first | sl_exact hc0 | sl_exact hc1 | sl_exact hc2)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; iexact H14
    isplitl [H15]
    · iexists _; isplitl [H15]
      · iexact H15
      · ipureintro; rfl
    isplitl [H16]
    · iexists _; isplitl [H16]
      · iexact H16
      · ipureintro; rfl
    isplitl [H17]
    · iexists _; isplitl [H17]
      · iexact H17
      · ipureintro; rfl
    isplitl [HS0]
    · iexists _; isplitl [HS0]
      · iexact HS0
      · ipureintro; exact fun _ => rfl
    isplitl [HS1]; · iexists _; iexact HS1
    iexists _; iexact HS2

end Cert.KernelIdeal.Body

end
-- ==== Proof.RunD.lean ====
module

public import proofs.«01_k».proof.Proof.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

set_option maxHeartbeats 0 in
/-- The run at the first point of a sequence after the first. -/
noncomputable def runD (hc0 : ¬atFirst i) (hc1 : atStart i) (hc2 : ¬atEnd i) :
    BodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 := by
  refine ⟨?_, [], [], [], ?_, ?_, ?_, fun xi15 xi16 xi17 E K => ?run⟩
  case run =>
    simp only [cc0_mlstm_mlp_eq_skeleton]; unfold cc0_mlstm_mlp_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hfs0; obtain rfl := harg20.eq_unread hfs1; obtain rfl := harg21.eq_unread hfs2
    sl_exec (disch := first | sl_exact hc0 | sl_exact hc1 | sl_exact hc2)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; iexact H14
    isplitl [H15]
    · iexists _; isplitl [H15]
      · iexact H15
      · ipureintro; rfl
    isplitl [H16]
    · iexists _; isplitl [H16]
      · iexact H16
      · ipureintro; rfl
    isplitl [H17]
    · iexists _; isplitl [H17]
      · iexact H17
      · ipureintro; rfl
    isplitl [HS0]
    · iexists _; isplitl [HS0]
      · iexact HS0
      · ipureintro; exact fun _ => rfl
    isplitl [HS1]; · iexists _; iexact HS1
    iexists _; iexact HS2

end Cert.KernelIdeal.Body

end
-- ==== Proof.Step.lean ====
module

public import proofs.«01_k».proof.Proof.Runs

@[expose] public section

set_option maxRecDepth 16384

noncomputable section

namespace Cert.KernelIdeal.Body

open Cert.KernelIdeal.Gen
open Idealize.ShloMosaic Idealize.ShloMosaic.TcCoe Idealize.ShloMosaic.Tactic

variable {F : FTy → Type} [FloatOps F]

/-! One point of the kernel as functions of what it loads: the gates of a chunk of 256 positions, what a head makes of a
chunk, the mixed rows, the feed-forward part. A chunk is a half (`j`) of a tile of 512 positions; head `h` has the gate rows
`4 + h`. -/

/-! ## The gates of a chunk -/

/-- The running sums of the log forget gates along the positions. -/
def csum (g : FVec F S8x256 .f32) : FVec F S8x256 .f32 :=
  matmul dot_S8x256_S256x256_S8x256_1_0_0_1_n_n (some .fp32) g (k0_pay19 (F := F)) (constant S8x256 .f32 0x00000000#32)

/-- The input gates less those sums. -/
def agate (g : FVec F S8x256 .f32) : FVec F S8x256 .f32 :=
  subf (dynamicRotate 0 4#32 none g rotates_S8x256_d0) (csum g)

/-- One doubling of the running maximum: each position against the one `n` before it. -/
def pstage (n : BitVec 32) (v : FVec F S8x256 .f32) : FVec F S8x256 .f32 :=
  maximumf v (select (cmpi .sge (iota .tc S8x256 32 [1] iota_S8x256_d1_w32) (broadcast S8x256 n))
    (dynamicRotate 1 n none v rotates_S8x256_d1) (broadcast S8x256 (Scalar.ofBits .f32 0xFF800000#32 : F .f32)))

/-- The running maximum along the positions. -/
def pmax (v : FVec F S8x256 .f32) : FVec F S8x256 .f32 :=
  pstage 128#32 (pstage 64#32 (pstage 32#32 (pstage 16#32 (pstage 8#32 (pstage 4#32 (pstage 2#32 (pstage 1#32 v)))))))

variable (mr g : FVec F S8x256 .f32)

/-- The stabilizer, less the running sum. -/
def bigm : FVec F S8x256 .f32 := maximumf mr (pmax (agate g))
/-- What the carried state is scaled by at each position. -/
def inter : FVec F S8x256 .f32 := exp (subf mr (bigm mr g))
/-- The floor of the normalizer. -/
def floorr : FVec F S8x256 .f32 :=
  exp (subf (broadcast S8x256 (Scalar.ofBits .f32 0x00000000#32 : F .f32)) (addf (csum g) (bigm mr g)))
/-- The stabilizer at the chunk's last position. -/
def mend : FVec F S8x1 .f32 := extractStridedSlice S8x1 ![0, 255] (bigm mr g) slices_S8x256_o0_255_S8x1
/-- What the carried state is scaled by over the whole chunk. -/
def decay : FVec F S8x1 .f32 := exp (subf (extractStridedSlice S8x1 ![0, 0] mr slices_S8x256_o0_0_S8x1) (mend mr g))
/-- The stabilizer carried on, in every column. -/
def mnext : FVec F S8x256 .f32 :=
  broadcastTo S8x256 (shapeCast S8x1 (addf (extractStridedSlice S8x1 ![0, 255] (csum g) slices_S8x256_o0_255_S8x1) (mend mr g))
    shapeCasts_S8x1_S8x1) broadcasts_S8x1_S8x256
/-- The gates and the key weights as columns. -/
def gcols : FVec F S256x128 .f32 :=
  transpose S256x128 [1, 0] (concatenate S128x256 0 [⟨S8x256, agate g⟩,
    ⟨S8x256, exp (subf (agate g) (broadcastTo S8x256 (mend mr g) broadcasts_S8x1_S8x256))⟩, ⟨S112x256, k0_pay21 (F := F)⟩]
    concatenates_S8x256_S8x256_S112x256_S128x256_d0) transposes_S128x256_p1_0_S256x128

/-! ## A head over a chunk -/

theorem slices_row (h : Fin 4) : S8x256.Slices ![4 + h.val, 0] S1x256 := by revert h; decide
theorem slices_cell (h : Fin 4) : S8x1.Slices ![4 + h.val, 0] S1x1 := by revert h; decide
theorem slices_col (h : Fin 4) : S256x128.Slices ![0, 4 + h.val] S256x1 := by revert h; decide
theorem slices_wcol (h : Fin 4) : S256x128.Slices ![0, 12 + h.val] S256x1 := by revert h; decide

variable (h : Fin 4) (k : FVec F S256x64 .bf16) (q : FVec F S64x256 .bf16) (v : FVec F S128x256 .bf16)
  (om gb : FVec F S128x256 .f32) (cn : FVec F S144x64 .f32)

/-- A head's row of a gate array. -/
def grow (w : FVec F S8x256 .f32) : FVec F S1x256 .f32 := extractStridedSlice S1x256 ![4 + h.val, 0] w (slices_row h)

/-- The keys against the queries. -/
def kq : FVec F S256x256 .f32 :=
  matmul dot_S256x64_S64x256_S256x256_1_0_0_1_n_n none k q (constant S256x256 .f32 0x00000000#32)
/-- The values with a row of ones below. -/
def vext : FVec F S144x256 .bf16 :=
  concatenate S144x256 0 [⟨S128x256, v⟩, ⟨S16x256, k0_pay20 (F := F)⟩] concatenates_S128x256_S16x256_S144x256_d0
/-- The gated scores inside the chunk. -/
def scores : FVec F S256x256 .bf16 :=
  truncf .bf16 (mulf (kq k q) (exp (select k0_pay18
    (subf (broadcastTo S256x256 (extractStridedSlice S256x1 ![0, 4 + h.val] (gcols mr g) (slices_col h)) broadcasts_S256x1_S256x256)
      (broadcastTo S256x256 (grow h (bigm mr g)) broadcasts_S1x256_S256x256))
    (broadcast S256x256 (Scalar.ofBits .f32 0xFF800000#32 : F .f32))))) bitsLt_bf16_f32
/-- The weighted keys. -/
def wkeys : FVec F S256x64 .bf16 :=
  truncf .bf16 (mulf (extf .f32 k bitsLt_bf16_f32)
    (broadcastTo S256x64 (extractStridedSlice S256x1 ![0, 12 + h.val] (gcols mr g) (slices_wcol h)) broadcasts_S256x1_S256x64))
    bitsLt_bf16_f32
/-- The numerator (rows 0 to 127) and the normalizer (row 128) at each position. -/
def numden : FVec F S144x256 .f32 :=
  addf (mulf (broadcastTo S144x256 (grow h (inter mr g)) broadcasts_S1x256_S144x256)
      (matmul dot_S144x64_S64x256_S144x256_1_0_0_1_n_n none (truncf .bf16 cn bitsLt_bf16_f32) q (constant S144x256 .f32 0x00000000#32)))
    (matmul dot_S144x256_S256x256_S144x256_1_0_0_1_n_n none (vext v) (scores mr g h k q) (constant S144x256 .f32 0x00000000#32))
/-- The state after the chunk. -/
def cnext : FVec F S144x64 .f32 :=
  addf (mulf (broadcastTo S144x64 (extractStridedSlice S1x1 ![4 + h.val, 0] (decay mr g) (slices_cell h)) broadcasts_S1x1_S144x64) cn)
    (matmul dot_S144x256_S256x64_S144x64_1_0_0_1_n_n none (vext v) (wkeys mr g h k) (constant S144x64 .f32 0x00000000#32))
/-- The reciprocal of the normalizer. -/
def recip : FVec F S1x256 .f32 :=
  divf (broadcast S1x256 (Scalar.ofBits .f32 0x3F800000#32 : F .f32))
    (maximumf (absf (extractStridedSlice S1x256 ![128, 0] (numden mr g h k q v cn) slices_S144x256_o128_0_S1x256))
      (grow h (floorr mr g)))
/-- The numerator under the output gate. -/
def gated : FVec F S128x256 .f32 :=
  mulf om (extractStridedSlice S128x256 ![0, 0] (numden mr g h k q v cn) slices_S144x256_o0_0_S128x256)
/-- The scale that divides by the normalizer and by the root of the mean square. -/
def nscale (r : FVec F S1x256 .f32) (t : FVec F S128x256 .f32) : FVec F S1x256 .f32 :=
  mulf r (rsqrt (addf (mulf (mulf r r)
    (divf (shapeCast S1x256 (multiReduction .add [0] S256 (mulf t t) 0x00000000#32 reduces_S128x256_S256 (.inl rfl) rfl)
      shapeCasts_S256_S1x256) (broadcast S1x256 (Scalar.ofBits .f32 0x43000000#32 : F .f32))))
    (broadcast S1x256 (Scalar.ofBits .f32 0x358637BD#32 : F .f32))))
/-- The head's mixed rows over the chunk. -/
def mixed : FVec F S128x256 .bf16 :=
  truncf .bf16 (mulf (mulf (gated mr g h k q v om cn)
    (broadcastTo S128x256 (nscale (recip mr g h k q v cn) (gated mr g h k q v om cn)) broadcasts_S1x256_S128x256)) gb) bitsLt_bf16_f32

/-! ## The loads of a tile -/

theorem inb_gates (j : Fin 2) : ∀ a, (![0, 256 * j.val] : Fin 2 → Nat) a + S8x256.size a ≤ S8x512.size a := by revert j; decide
theorem inb_keys (j : Fin 2) (h : Fin 4) : ∀ a, (![256 * j.val, 64 * h.val] : Fin 2 → Nat) a + S256x64.size a ≤ S512x256.size a := by
  revert j h; decide
theorem inb_queries (j : Fin 2) (h : Fin 4) : ∀ a, (![64 * h.val, 256 * j.val] : Fin 2 → Nat) a + S64x256.size a ≤ S256x512.size a := by
  revert j h; decide
theorem inb_rows (j : Fin 2) (h : Fin 4) : ∀ a, (![128 * h.val, 256 * j.val] : Fin 2 → Nat) a + S128x256.size a ≤ S512x512.size a := by
  revert j h; decide
theorem inb_gain (h : Fin 4) : ∀ a, (![128 * h.val, 0] : Fin 2 → Nat) a + S128x256.size a ≤ S512x256.size a := by revert h; decide
theorem inb_state (h : Fin 4) : ∀ a, (![h.val, 0, 0] : Fin 3 → Nat) a + S1x144x64.size a ≤ S4x144x64.size a := by revert h; decide

section Tile
variable (x2 : Vec F S256x512 .bf16) (x3 : Vec F S512x256 .bf16) (x4 : Vec F S512x512 .bf16) (x5 : Vec F S512x512 .f32)
  (x6 : Vec F S8x512 .f32) (x7 : Vec F S512x256 .f32) (xs1 : Vec F S4x144x64 .f32) (xs2 : Vec F S8x256 .f32) (j : Fin 2)

def ldG : FVec F S8x256 .f32 :=
  shapeCast S8x256 (View.ld (Val := Elt F) x6 (Rect.unit (s := S8x512) ![0, 256 * j.val] S8x256.size (inb_gates j))) shapeCasts_S8x256_S8x256
def ldK : FVec F S256x64 .bf16 :=
  shapeCast S256x64 (View.ld (Val := Elt F) x3 (Rect.unit (s := S512x256) ![256 * j.val, 64 * h.val] S256x64.size (inb_keys j h))) shapeCasts_S256x64_S256x64
def ldQ : FVec F S64x256 .bf16 :=
  shapeCast S64x256 (View.ld (Val := Elt F) x2 (Rect.unit (s := S256x512) ![64 * h.val, 256 * j.val] S64x256.size (inb_queries j h))) shapeCasts_S64x256_S64x256
def ldV : FVec F S128x256 .bf16 :=
  shapeCast S128x256 (View.ld (Val := Elt F) x4 (Rect.unit (s := S512x512) ![128 * h.val, 256 * j.val] S128x256.size (inb_rows j h))) shapeCasts_S128x256_S128x256
def ldO : FVec F S128x256 .f32 :=
  shapeCast S128x256 (View.ld (Val := Elt F) x5 (Rect.unit (s := S512x512) ![128 * h.val, 256 * j.val] S128x256.size (inb_rows j h))) shapeCasts_S128x256_S128x256
def ldN : FVec F S128x256 .f32 :=
  shapeCast S128x256 (View.ld (Val := Elt F) x7 (Rect.unit (s := S512x256) ![128 * h.val, 0] S128x256.size (inb_gain h))) shapeCasts_S128x256_S128x256
def ldC : FVec F S144x64 .f32 :=
  shapeCast S144x64 (View.ld (Val := Elt F) xs1 (Rect.unit (s := S4x144x64) ![h.val, 0, 0] S1x144x64.size (inb_state h))) shapeCasts_S1x144x64_S144x64
def ldM : FVec F S8x256 .f32 := View.ld (Val := Elt F) xs2 (Rect.unit (s := S8x256) ![0, 0] S8x256.size inb_S8x256_S8x256_0_0)

/-- The stabilizer before each half of the tile, and after both. -/
def mrAt : ℕ → FVec F S8x256 .f32
  | 0 => ldM xs2
  | 1 => mnext (ldM xs2) (ldG x6 0)
  | _ => mnext (mnext (ldM xs2) (ldG x6 0)) (ldG x6 1)
/-- A head's state before each half of the tile, and after both. -/
def cnAt : ℕ → FVec F S144x64 .f32
  | 0 => ldC h xs1
  | 1 => cnext (mrAt x6 xs2 0) (ldG x6 0) h (ldK h x3 0) (ldV h x4 0) (ldC h xs1)
  | _ => cnext (mrAt x6 xs2 1) (ldG x6 1) h (ldK h x3 1) (ldV h x4 1)
      (cnext (mrAt x6 xs2 0) (ldG x6 0) h (ldK h x3 0) (ldV h x4 0) (ldC h xs1))
/-- A head's mixed rows over a half of the tile. -/
def mixAt : FVec F S128x256 .bf16 :=
  mixed (mrAt x6 xs2 j.val) (ldG x6 j) h (ldK h x3 j) (ldQ h x2 j) (ldV h x4 j) (ldO h x5 j) (ldN h x7) (cnAt h x3 x4 x6 xs1 xs2 j.val)

/-- The stores into the state scratch. -/
def cnPieces : List (View.Piece (Elt F) S4x144x64 .f32) :=
  [⟨Rect.unit ![3, 0, 0] S1x144x64.size (inb_state 3), shapeCast S1x144x64 (cnAt 3 x3 x4 x6 xs1 xs2 2) shapeCasts_S144x64_S1x144x64⟩,
   ⟨Rect.unit ![2, 0, 0] S1x144x64.size (inb_state 2), shapeCast S1x144x64 (cnAt 2 x3 x4 x6 xs1 xs2 2) shapeCasts_S144x64_S1x144x64⟩,
   ⟨Rect.unit ![1, 0, 0] S1x144x64.size (inb_state 1), shapeCast S1x144x64 (cnAt 1 x3 x4 x6 xs1 xs2 2) shapeCasts_S144x64_S1x144x64⟩,
   ⟨Rect.unit ![0, 0, 0] S1x144x64.size (inb_state 0), shapeCast S1x144x64 (cnAt 0 x3 x4 x6 xs1 xs2 2) shapeCasts_S144x64_S1x144x64⟩]
/-- The store into the stabilizer scratch. -/
def mrPieces : List (View.Piece (Elt F) S8x256 .f32) :=
  [⟨Rect.unit ![0, 0] S8x256.size inb_S8x256_S8x256_0_0, shapeCast S8x256 (mrAt x6 xs2 2) shapeCasts_S8x256_S8x256⟩]
/-- What is stored of a head's mixed rows. -/
def mixSt : FVec F S1x128x256 .bf16 := shapeCast S1x128x256 (mixAt h x2 x3 x4 x5 x6 x7 xs1 xs2 j) shapeCasts_S128x256_S1x128x256
/-- The stores of the mixed rows into the tile's slot. -/
def mixPieces (i : grid0.Coords) : List (View.Piece (Elt F) S2x512x512 .bf16) :=
  [⟨Rect.unit (k0_off9 i) S1x128x256.size (k0_off9_inb i), mixSt 3 x2 x3 x4 x5 x6 x7 xs1 xs2 1⟩,
   ⟨Rect.unit (k0_off8 i) S1x128x256.size (k0_off8_inb i), mixSt 2 x2 x3 x4 x5 x6 x7 xs1 xs2 1⟩,
   ⟨Rect.unit (k0_off7 i) S1x128x256.size (k0_off7_inb i), mixSt 1 x2 x3 x4 x5 x6 x7 xs1 xs2 1⟩,
   ⟨Rect.unit (k0_off6 i) S1x128x256.size (k0_off6_inb i), mixSt 0 x2 x3 x4 x5 x6 x7 xs1 xs2 1⟩,
   ⟨Rect.unit (k0_off5 i) S1x128x256.size (k0_off5_inb i), mixSt 3 x2 x3 x4 x5 x6 x7 xs1 xs2 0⟩,
   ⟨Rect.unit (k0_off4 i) S1x128x256.size (k0_off4_inb i), mixSt 2 x2 x3 x4 x5 x6 x7 xs1 xs2 0⟩,
   ⟨Rect.unit (k0_off3 i) S1x128x256.size (k0_off3_inb i), mixSt 1 x2 x3 x4 x5 x6 x7 xs1 xs2 0⟩,
   ⟨Rect.unit (k0_off2 i) S1x128x256.size (k0_off2_inb i), mixSt 0 x2 x3 x4 x5 x6 x7 xs1 xs2 0⟩]
end Tile

/-! ## The feed-forward part -/

section Mlp
variable (x0 : Vec F S512x1024 .f32) (x1 : Vec F S512x512 .bf16) (x8 : Vec F S512x1024 .bf16) (x9 : Vec F S512x1024 .bf16)
  (x10 : Vec F S1x1024 .f32) (x11 : Vec F S1024x4096 .bf16) (x12 : Vec F S4096x1024 .bf16) (x13 : Vec F S1x1024 .f32)
  (xs0 : Vec F S2x512x512 .bf16) (i : grid0.Coords)

/-- The input plus the projected mixed rows. -/
def resid : FVec F S512x1024 .f32 :=
  k0_pay29 (k0_pay28 (View.ld (Val := Elt F) x0 (Rect.unit (s := S512x1024) ![0, 0] S512x1024.size inb_S512x1024_S512x1024_0_0))
      (View.ld (Val := Elt F) x1 (Rect.unit (s := S512x512) ![0, 0] S512x512.size inb_S512x512_S512x512_0_0))
      (View.ld (Val := Elt F) x8 (Rect.unit (s := S512x1024) ![0, 0] S512x1024.size inb_S512x1024_S512x1024_0_0)))
    (View.ld (Val := Elt F) xs0 (Rect.unit (s := S2x512x512) (k0_off1 i) S1x512x512.size (k0_off1_inb i)))
    (View.ld (Val := Elt F) x9 (Rect.unit (s := S512x1024) ![0, 0] S512x1024.size inb_S512x1024_S512x1024_0_0))

/-- The rows the tile stores. -/
def yOut : FVec F S512x1024 .f32 :=
  k0_pay134 (k0_pay132 (View.ld (Val := Elt F) x13 (Rect.unit (s := S1x1024) ![0, 0] S1x1024.size inb_S1x1024_S1x1024_0_0)))
    (k0_pay133 (resid x0 x1 x8 x9 xs0 i)
      (k0_pay54 (k0_pay52 (resid x0 x1 x8 x9 xs0 i) (View.ld (Val := Elt F) x10 (Rect.unit (s := S1x1024) ![0, 0] S1x1024.size inb_S1x1024_S1x1024_0_0)))
        (k0_pay53 (View.ld (Val := Elt F) x11 (Rect.unit (s := S1024x4096) ![0, 0] S1024x4096.size inb_S1024x4096_S1024x4096_0_0)))
        (constant S512x4096 .f32 0x00000000#32))
      (View.ld (Val := Elt F) x12 (Rect.unit (s := S4096x1024) ![0, 0] S4096x1024.size inb_S4096x1024_S4096x1024_0_0)))

def yPieces : List (View.Piece (Elt F) S512x1024 .f32) :=
  [⟨Rect.unit ![0, 0] S512x1024.size inb_S512x1024_S512x1024_0_0, yOut x0 x1 x8 x9 x10 x11 x12 x13 xs0 i⟩]
end Mlp

end Cert.KernelIdeal.Body

end
-- ==== Proof.Reads.lean ====
module

public import proofs.«01_k».proof.Proof.Step
public import Idealize.ShloMosaic.Lib.WritesUnit
public import Idealize.ShloMosaic.Lib.Pointwise
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the stores of a point leave in the buffers, read at an index. -/

/-- The index of head `h`'s row `r`. -/
def hrow (h : Fin 4) (r : Fin 128) : Fin 512 := ⟨128 * h.val + r.val, by omega⟩
/-- The index of position `l` of half `j`. -/
def jpos (j : Fin 2) (l : Fin 256) : Fin 512 := ⟨256 * j.val + l.val, by omega⟩

theorem hrow_surj (p : Fin 512) : ∃ h r, p = hrow h r :=
  ⟨⟨p.val / 128, by omega⟩, ⟨p.val % 128, by omega⟩, Fin.ext (by simp only [hrow]; omega)⟩
theorem jpos_surj (p : Fin 512) : ∃ j l, p = jpos j l :=
  ⟨⟨p.val / 256, by omega⟩, ⟨p.val % 256, by omega⟩, Fin.ext (by simp only [jpos]; omega)⟩

theorem addUnit_at {M N : ℕ} {α : Type} (x : (⟨2, ![M, N]⟩ : Shape).Idx → α) (hc : (⟨2, ![M, N]⟩ : Shape).ShapeCasts ⟨3, ![1, M, N]⟩)
    (r : Fin M) (l : Fin N) : shapeCast ⟨3, ![1, M, N]⟩ x hc (ix3 0 r l) = x (ix2 r l) :=
  (shapeCast_addUnit_apply ![M, N] x hc (ix3 0 r l)).trans
    (congrArg x (funext fun a => match a with | 0 => rfl | 1 => rfl))

theorem dropUnit_at {M N : ℕ} {α : Type} (x : (⟨3, ![1, M, N]⟩ : Shape).Idx → α) (hc : (⟨3, ![1, M, N]⟩ : Shape).ShapeCasts ⟨2, ![M, N]⟩)
    (r : Fin M) (l : Fin N) : shapeCast ⟨2, ![M, N]⟩ x hc (ix2 r l) = x (ix3 0 r l) :=
  (shapeCast_dropUnit_apply ![M, N] x hc (ix2 r l)).trans
    (congrArg x (funext fun a => match a with | 0 => rfl | 1 => rfl | 2 => rfl))

section Reads
variable (x2 : Vec F S256x512 .bf16) (x3 : Vec F S512x256 .bf16) (x4 : Vec F S512x512 .bf16) (x5 : Vec F S512x512 .f32)
  (x6 : Vec F S8x512 .f32) (x7 : Vec F S512x256 .f32) (xs1 : Vec F S4x144x64 .f32) (xs2 : Vec F S8x256 .f32) (j : Fin 2)

/-- The state scratch after the point. -/
def cnOut : Vec F S4x144x64 .f32 := fun y => cnAt (y 0) x3 x4 x6 xs1 xs2 2 (ix2 (y 1) (y 2))
/-- The stabilizer scratch after the point. -/
def mrOut : Vec F S8x256 .f32 := mrAt x6 xs2 2
/-- The mixed rows' scratch after the point: slot `s` the tile's, the other slot as it was. -/
def mixOut (s : ℕ) (base : Vec F S2x512x512 .bf16) : Vec F S2x512x512 .bf16 := fun y =>
  if (y 0).val = s then
    mixAt ⟨(y 1).val / 128, by have := (y 1).isLt; change _ < 512 at this; omega⟩ x2 x3 x4 x5 x6 x7 xs1 xs2
      ⟨(y 2).val / 256, by have := (y 2).isLt; change _ < 512 at this; omega⟩
      (ix2 ⟨(y 1).val % 128, by omega⟩ ⟨(y 2).val % 256, by omega⟩)
  else base y

theorem mixOut_at (s : ℕ) (base : Vec F S2x512x512 .bf16) (a : Fin 2) (h : Fin 4) (r : Fin 128) (l : Fin 256) :
    mixOut x2 x3 x4 x5 x6 x7 xs1 xs2 s base (ix3 a (hrow h r) (jpos j l))
      = if a.val = s then mixAt h x2 x3 x4 x5 x6 x7 xs1 xs2 j (ix2 r l) else base (ix3 a (hrow h r) (jpos j l)) := by
  unfold mixOut
  have e1 : (⟨(hrow h r).val / 128, by simp only [hrow]; omega⟩ : Fin 4) = h := Fin.ext (by simp only [hrow]; omega)
  have e2 : (⟨(jpos j l).val / 256, by simp only [jpos]; omega⟩ : Fin 2) = j := Fin.ext (by simp only [jpos]; omega)
  have e3 : (⟨(hrow h r).val % 128, by omega⟩ : Fin 128) = r := Fin.ext (by simp only [hrow]; omega)
  have e4 : (⟨(jpos j l).val % 256, by omega⟩ : Fin 256) = l := Fin.ext (by simp only [jpos]; omega)
  simp only [ix3_0, ix3_1, ix3_2, e1, e2, e3, e4]

theorem peel_state {κ : Kind} {sp : Space} (v : View sig κ sp S4x144x64 .f32) (f : v.ty.Contents (Elt F)) (h' h : Fin 4) (w : Vec F S1x144x64 .f32)
    (L : List (View.Piece (Elt F) S4x144x64 .f32)) (r : Fin 144) (d : Fin 64) :
    v.read (Elt F) (v.writes (Elt F) f ((⟨Rect.unit ![h'.val, 0, 0] S1x144x64.size (inb_state h'), w⟩ : View.Piece (Elt F) S4x144x64 .f32) :: L)) (ix3 h r d)
      = if h = h' then w (ix3 0 r d) else v.read (Elt F) (v.writes (Elt F) f L) (ix3 h r d) := by
  by_cases e : h = h'
  · subst e
    rw [if_pos rfl]
    exact View.read_writes_cons_unit_of_mem v f (inb_state h) w L _ (ix3 0 r d) rfl
      (fun a => match a with | 0 => rfl | 1 => (Nat.zero_add _).symm | 2 => (Nat.zero_add _).symm)
  · rw [if_neg e]
    refine View.read_writes_cons_unit_of_not_mem v f (inb_state h') w L _ rfl 0 ?_
    show h.val < h'.val ∨ h'.val + 1 ≤ h.val
    omega

set_option maxHeartbeats 1000000 in
theorem read_cn {κ : Kind} {sp : Space} (v : View sig κ sp S4x144x64 .f32) (f : v.ty.Contents (Elt F)) (L : List (View.Piece (Elt F) S4x144x64 .f32)) :
    v.read (Elt F) (v.writes (Elt F) f (cnPieces x3 x4 x6 xs1 xs2 ++ L)) = cnOut x3 x4 x6 xs1 xs2 := by
  funext y
  obtain ⟨h, r, d, rfl⟩ : ∃ h r d, y = ix3 h r d := ⟨y 0, y 1, y 2, eq_ix3 y⟩
  unfold cnPieces
  simp only [List.cons_append, List.nil_append]
  refine (peel_state v f 3 h _ _ r d).trans ?_
  split_ifs with e3
  · subst e3; exact addUnit_at _ _ _ _
  refine (peel_state v f 2 h _ _ r d).trans ?_
  split_ifs with e2
  · subst e2; exact addUnit_at _ _ _ _
  refine (peel_state v f 1 h _ _ r d).trans ?_
  split_ifs with e1
  · subst e1; exact addUnit_at _ _ _ _
  refine (peel_state v f 0 h _ _ r d).trans ?_
  split_ifs with e0
  · subst e0; exact addUnit_at _ _ _ _
  omega

theorem read_mr {κ : Kind} {sp : Space} (v : View sig κ sp S8x256 .f32) (f : v.ty.Contents (Elt F)) (L : List (View.Piece (Elt F) S8x256 .f32)) :
    v.read (Elt F) (v.writes (Elt F) f (mrPieces x6 xs2 ++ L)) = mrOut x6 xs2 := by
  funext y
  unfold mrPieces
  simp only [List.cons_append, List.nil_append, shapeCast_id]
  exact View.read_writes_cons_unit_of_mem v f inb_S8x256_S8x256_0_0 (mrAt x6 xs2 2) L y y rfl
    (fun a => match a with | 0 => (Nat.zero_add _).symm | 1 => (Nat.zero_add _).symm)

theorem peel_mix {κ : Kind} {sp : Space} (v : View sig κ sp S2x512x512 .bf16) (f : v.ty.Contents (Elt F)) (s : ℕ) (h' h : Fin 4) (j' j : Fin 2) {off : Fin 3 → ℕ}
    (e : off = ![s, 128 * h'.val, 256 * j'.val]) (inb : ∀ a, off a + S1x128x256.size a ≤ S2x512x512.size a) (w : Vec F S1x128x256 .bf16)
    (L : List (View.Piece (Elt F) S2x512x512 .bf16)) (a : Fin 2) (r : Fin 128) (l : Fin 256) :
    v.read (Elt F) (v.writes (Elt F) f ((⟨Rect.unit off S1x128x256.size inb, w⟩ : View.Piece (Elt F) S2x512x512 .bf16) :: L)) (ix3 a (hrow h r) (jpos j l))
      = if a.val = s ∧ h = h' ∧ j = j' then w (ix3 0 r l) else v.read (Elt F) (v.writes (Elt F) f L) (ix3 a (hrow h r) (jpos j l)) := by
  split_ifs with c
  · obtain ⟨rfl, rfl, rfl⟩ := c
    exact View.read_writes_cons_unit_of_mem v f inb w L _ (ix3 0 r l) e (fun a => match a with | 0 => rfl | 1 => rfl | 2 => rfl)
  · by_cases ca : a.val = s
    · by_cases ch : h = h'
      · refine View.read_writes_cons_unit_of_not_mem v f inb w L _ e 2 ?_
        show 256 * j.val + l.val < 256 * j'.val ∨ 256 * j'.val + 256 ≤ 256 * j.val + l.val
        have : j ≠ j' := fun cj => c ⟨ca, ch, cj⟩
        have : j.val ≠ j'.val := fun q => this (Fin.ext q)
        omega
      · refine View.read_writes_cons_unit_of_not_mem v f inb w L _ e 1 ?_
        show 128 * h.val + r.val < 128 * h'.val ∨ 128 * h'.val + 128 ≤ 128 * h.val + r.val
        have : h.val ≠ h'.val := fun q => ch (Fin.ext q)
        omega
    · refine View.read_writes_cons_unit_of_not_mem v f inb w L _ e 0 ?_
      show a.val < s ∨ s + 1 ≤ a.val
      omega

theorem read_mix {κ : Kind} {sp : Space} (v : View sig κ sp S2x512x512 .bf16) (f : v.ty.Contents (Elt F)) (i : grid0.Coords) (L : List (View.Piece (Elt F) S2x512x512 .bf16)) :
    v.read (Elt F) (v.writes (Elt F) f (mixPieces x2 x3 x4 x5 x6 x7 xs1 xs2 i ++ L))
      = mixOut x2 x3 x4 x5 x6 x7 xs1 xs2 ((i 0).val % 2) (v.read (Elt F) (v.writes (Elt F) f L)) := by
  funext y
  obtain ⟨a, p, q, rfl⟩ : ∃ a p q, y = ix3 a p q := ⟨y 0, y 1, y 2, eq_ix3 y⟩
  obtain ⟨h, r, rfl⟩ := hrow_surj p
  obtain ⟨j, l, rfl⟩ := jpos_surj q
  rw [mixOut_at]
  unfold mixPieces
  simp only [List.cons_append, List.nil_append]
  rw [peel_mix v f _ 3 h 1 j (off9_eq i), peel_mix v f _ 2 h 1 j (off8_eq i), peel_mix v f _ 1 h 1 j (off7_eq i), peel_mix v f _ 0 h 1 j (off6_eq i),
    peel_mix v f _ 3 h 0 j (off5_eq i), peel_mix v f _ 2 h 0 j (off4_eq i), peel_mix v f _ 1 h 0 j (off3_eq i), peel_mix v f _ 0 h 0 j (off2_eq i)]
  by_cases ca : a.val = (i 0).val % 2
  · have hh : h = 0 ∨ h = 1 ∨ h = 2 ∨ h = 3 := by omega
    have hj : j = 0 ∨ j = 1 := by omega
    rcases hh with rfl | rfl | rfl | rfl <;> rcases hj with rfl | rfl <;>
      simp [ca, mixSt, addUnit_at]
  · simp [ca]

/-! ## The arrays written out at the end of a sequence -/

variable (cn : Vec F S4x144x64 .f32) (mr : Vec F S8x256 .f32)

def cOut : Vec F S1x4x64x128 .f32 := fun y => cn (ix3 (y 1) ⟨(y 3).val, by have := (y 3).isLt; change _ < 128 at this; omega⟩ (y 2))
def nOut : Vec F S1x4x1x64 .f32 := fun y => cn (ix3 (y 1) ⟨128, by omega⟩ (y 3))
def mOut : Vec F S1x8x256 .f32 := fun y => mr (ix2 (y 1) (y 2))

end Reads

end Cert.KernelIdeal.Body

end
-- ==== Proof.Pieces.lean ====
module

public import proofs.«01_k».proof.Proof.RunD
public import proofs.«01_k».proof.Proof.Reads

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The stores of each run of the body, written out: the lists the runs carry are these. -/

/-- The store that clears the mixed rows. -/
def mixZero : List (View.Piece (Elt F) S2x512x512 .bf16) :=
  [⟨Rect.unit ![0, 0, 0] S2x512x512.size inb_S2x512x512_S2x512x512_0_0_0, k0_pay11⟩]
/-- The store that clears the state. -/
def cnZero : List (View.Piece (Elt F) S4x144x64 .f32) :=
  [⟨Rect.unit ![0, 0, 0] S4x144x64.size inb_S4x144x64_S4x144x64_0_0_0, k0_pay12⟩]
/-- The store that clears the stabilizer. -/
def mrZero : List (View.Piece (Elt F) S8x256 .f32) :=
  [⟨Rect.unit ![0, 0] S8x256.size inb_S8x256_S8x256_0_0, k0_pay13⟩]

theorem inb_cread (h : Fin 4) : ∀ a, (![h.val, 0, 0] : Fin 3 → Nat) a + S1x128x64.size a ≤ S4x144x64.size a := by revert h; decide
theorem inb_nread (h : Fin 4) : ∀ a, (![h.val, 128, 0] : Fin 3 → Nat) a + S1x1x64.size a ≤ S4x144x64.size a := by revert h; decide
theorem inb_cwrite (h : Fin 4) : ∀ a, (![0, h.val, 0, 0] : Fin 4 → Nat) a + S1x1x64x128.size a ≤ S1x4x64x128.size a := by revert h; decide
theorem inb_nwrite (h : Fin 4) : ∀ a, (![0, h.val, 0, 0] : Fin 4 → Nat) a + S1x1x1x64.size a ≤ S1x4x1x64.size a := by revert h; decide

/-- A head's memory as it is written out: the state's rows below 128, transposed. -/
def cSt (cn : Vec F S4x144x64 .f32) (h : Fin 4) : Vec F S1x1x64x128 .f32 :=
  k0_pay6 (View.ld (Val := Elt F) cn (Rect.unit (s := S4x144x64) ![h.val, 0, 0] S1x128x64.size (inb_cread h)))
/-- A head's normalizer as it is written out: the state's row 128. -/
def nSt (cn : Vec F S4x144x64 .f32) (h : Fin 4) : Vec F S1x1x1x64 .f32 :=
  k0_pay7 (View.ld (Val := Elt F) cn (Rect.unit (s := S4x144x64) ![h.val, 128, 0] S1x1x64.size (inb_nread h)))
def cPieces (cn : Vec F S4x144x64 .f32) : List (View.Piece (Elt F) S1x4x64x128 .f32) :=
  [⟨Rect.unit ![0, 3, 0, 0] S1x1x64x128.size (inb_cwrite 3), cSt cn 3⟩, ⟨Rect.unit ![0, 2, 0, 0] S1x1x64x128.size (inb_cwrite 2), cSt cn 2⟩,
   ⟨Rect.unit ![0, 1, 0, 0] S1x1x64x128.size (inb_cwrite 1), cSt cn 1⟩, ⟨Rect.unit ![0, 0, 0, 0] S1x1x64x128.size (inb_cwrite 0), cSt cn 0⟩]
def nPieces (cn : Vec F S4x144x64 .f32) : List (View.Piece (Elt F) S1x4x1x64 .f32) :=
  [⟨Rect.unit ![0, 3, 0, 0] S1x1x1x64.size (inb_nwrite 3), nSt cn 3⟩, ⟨Rect.unit ![0, 2, 0, 0] S1x1x1x64.size (inb_nwrite 2), nSt cn 2⟩,
   ⟨Rect.unit ![0, 1, 0, 0] S1x1x1x64.size (inb_nwrite 1), nSt cn 1⟩, ⟨Rect.unit ![0, 0, 0, 0] S1x1x1x64.size (inb_nwrite 0), nSt cn 0⟩]
def mPieces (mr : Vec F S8x256 .f32) : List (View.Piece (Elt F) S1x8x256 .f32) :=
  [⟨Rect.unit ![0, 0, 0] S1x8x256.size inb_S1x8x256_S1x8x256_0_0_0,
    k0_pay5 (View.ld (Val := Elt F) mr (Rect.unit (s := S8x256) ![0, 0] S8x256.size inb_S8x256_S8x256_0_0))⟩]

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

set_option maxHeartbeats 4000000 in
theorem runA_L14 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L14
      = yPieces (arg1.view.read (Elt F) (harg1.unread x0)) (arg2.view.read (Elt F) (harg2.unread x1)) (arg9.view.read (Elt F) (harg9.unread x8)) (arg10.view.read (Elt F) (harg10.unread x9)) (arg11.view.read (Elt F) (harg11.unread x10)) (arg12.view.read (Elt F) (harg12.unread x11)) (arg13.view.read (Elt F) (harg13.unread x12)) (arg14.view.read (Elt F) (harg14.unread x13)) (arg19.view.read (Elt F) (arg19.view.writes (Elt F) (fun _ => Classical.arbitrary _) mixZero)) i := rfl
set_option maxHeartbeats 4000000 in
theorem runA_LS0 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS0
      = mixPieces (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg20.view.read (Elt F) (arg20.view.writes (Elt F) (fun _ => Classical.arbitrary _) cnZero)) (arg21.view.read (Elt F) (arg21.view.writes (Elt F) (fun _ => Classical.arbitrary _) mrZero)) i ++ mixZero := rfl
set_option maxHeartbeats 4000000 in
theorem runA_LS1 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS1
      = cnPieces (arg4.view.read (Elt F) (harg4.unread x3)) (arg5.view.read (Elt F) (harg5.unread x4)) (arg7.view.read (Elt F) (harg7.unread x6)) (arg20.view.read (Elt F) (arg20.view.writes (Elt F) (fun _ => Classical.arbitrary _) cnZero)) (arg21.view.read (Elt F) (arg21.view.writes (Elt F) (fun _ => Classical.arbitrary _) mrZero)) ++ cnZero := rfl
set_option maxHeartbeats 4000000 in
theorem runA_LS2 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS2
      = mrPieces (arg7.view.read (Elt F) (harg7.unread x6)) (arg21.view.read (Elt F) (arg21.view.writes (Elt F) (fun _ => Classical.arbitrary _) mrZero)) ++ mrZero := rfl
set_option maxHeartbeats 4000000 in
theorem runA_L15 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L15
      = [] := rfl
set_option maxHeartbeats 4000000 in
theorem runA_L16 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L16
      = [] := rfl
set_option maxHeartbeats 4000000 in
theorem runA_L17 (hc0 : atFirst i) (hc1 : atStart i) (hc2 : ¬atEnd i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L17
      = [] := rfl

set_option maxHeartbeats 4000000 in
theorem runB_L14 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L14
      = yPieces (arg1.view.read (Elt F) (harg1.unread x0)) (arg2.view.read (Elt F) (harg2.unread x1)) (arg9.view.read (Elt F) (harg9.unread x8)) (arg10.view.read (Elt F) (harg10.unread x9)) (arg11.view.read (Elt F) (harg11.unread x10)) (arg12.view.read (Elt F) (harg12.unread x11)) (arg13.view.read (Elt F) (harg13.unread x12)) (arg14.view.read (Elt F) (harg14.unread x13)) (arg19.view.read (Elt F) (harg19.unread xs0)) i := rfl
set_option maxHeartbeats 4000000 in
theorem runB_LS0 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS0
      = mixPieces (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg20.view.read (Elt F) (harg20.unread xs1)) (arg21.view.read (Elt F) (harg21.unread xs2)) i ++ [] := rfl
set_option maxHeartbeats 4000000 in
theorem runB_LS1 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS1
      = cnPieces (arg4.view.read (Elt F) (harg4.unread x3)) (arg5.view.read (Elt F) (harg5.unread x4)) (arg7.view.read (Elt F) (harg7.unread x6)) (arg20.view.read (Elt F) (harg20.unread xs1)) (arg21.view.read (Elt F) (harg21.unread xs2)) ++ [] := rfl
set_option maxHeartbeats 4000000 in
theorem runB_LS2 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS2
      = mrPieces (arg7.view.read (Elt F) (harg7.unread x6)) (arg21.view.read (Elt F) (harg21.unread xs2)) ++ [] := rfl
set_option maxHeartbeats 4000000 in
theorem runB_L15 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L15
      = [] := rfl
set_option maxHeartbeats 4000000 in
theorem runB_L16 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L16
      = [] := rfl
set_option maxHeartbeats 4000000 in
theorem runB_L17 (hc0 : ¬atFirst i) (hc1 : ¬atStart i) (hc2 : ¬atEnd i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L17
      = [] := rfl

set_option maxHeartbeats 4000000 in
theorem runC_L14 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L14
      = yPieces (arg1.view.read (Elt F) (harg1.unread x0)) (arg2.view.read (Elt F) (harg2.unread x1)) (arg9.view.read (Elt F) (harg9.unread x8)) (arg10.view.read (Elt F) (harg10.unread x9)) (arg11.view.read (Elt F) (harg11.unread x10)) (arg12.view.read (Elt F) (harg12.unread x11)) (arg13.view.read (Elt F) (harg13.unread x12)) (arg14.view.read (Elt F) (harg14.unread x13)) (arg19.view.read (Elt F) (harg19.unread xs0)) i := rfl
set_option maxHeartbeats 4000000 in
theorem runC_LS0 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS0
      = mixPieces (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg20.view.read (Elt F) (harg20.unread xs1)) (arg21.view.read (Elt F) (harg21.unread xs2)) i ++ [] := rfl
set_option maxHeartbeats 4000000 in
theorem runC_LS1 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS1
      = cnPieces (arg4.view.read (Elt F) (harg4.unread x3)) (arg5.view.read (Elt F) (harg5.unread x4)) (arg7.view.read (Elt F) (harg7.unread x6)) (arg20.view.read (Elt F) (harg20.unread xs1)) (arg21.view.read (Elt F) (harg21.unread xs2)) ++ [] := rfl
set_option maxHeartbeats 4000000 in
theorem runC_LS2 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS2
      = mrPieces (arg7.view.read (Elt F) (harg7.unread x6)) (arg21.view.read (Elt F) (harg21.unread xs2)) ++ [] := rfl
set_option maxHeartbeats 4000000 in
theorem runC_L15 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L15
      = cPieces (arg20.view.read (Elt F) (arg20.view.writes (Elt F) (fun _ => Classical.arbitrary _) (cnPieces (arg4.view.read (Elt F) (harg4.unread x3)) (arg5.view.read (Elt F) (harg5.unread x4)) (arg7.view.read (Elt F) (harg7.unread x6)) (arg20.view.read (Elt F) (harg20.unread xs1)) (arg21.view.read (Elt F) (harg21.unread xs2)) ++ []))) := rfl
set_option maxHeartbeats 4000000 in
theorem runC_L16 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L16
      = nPieces (arg20.view.read (Elt F) (arg20.view.writes (Elt F) (fun _ => Classical.arbitrary _) (cnPieces (arg4.view.read (Elt F) (harg4.unread x3)) (arg5.view.read (Elt F) (harg5.unread x4)) (arg7.view.read (Elt F) (harg7.unread x6)) (arg20.view.read (Elt F) (harg20.unread xs1)) (arg21.view.read (Elt F) (harg21.unread xs2)) ++ []))) := rfl
set_option maxHeartbeats 4000000 in
theorem runC_L17 (hc0 : ¬atFirst i) (hc1 : ¬atStart i) (hc2 : atEnd i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L17
      = mPieces (arg21.view.read (Elt F) (arg21.view.writes (Elt F) (fun _ => Classical.arbitrary _) (mrPieces (arg7.view.read (Elt F) (harg7.unread x6)) (arg21.view.read (Elt F) (harg21.unread xs2)) ++ []))) := rfl

set_option maxHeartbeats 4000000 in
theorem runD_L14 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L14
      = yPieces (arg1.view.read (Elt F) (harg1.unread x0)) (arg2.view.read (Elt F) (harg2.unread x1)) (arg9.view.read (Elt F) (harg9.unread x8)) (arg10.view.read (Elt F) (harg10.unread x9)) (arg11.view.read (Elt F) (harg11.unread x10)) (arg12.view.read (Elt F) (harg12.unread x11)) (arg13.view.read (Elt F) (harg13.unread x12)) (arg14.view.read (Elt F) (harg14.unread x13)) (arg19.view.read (Elt F) (harg19.unread xs0)) i := rfl
set_option maxHeartbeats 4000000 in
theorem runD_LS0 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS0
      = mixPieces (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg20.view.read (Elt F) (arg20.view.writes (Elt F) (fun _ => Classical.arbitrary _) cnZero)) (arg21.view.read (Elt F) (arg21.view.writes (Elt F) (fun _ => Classical.arbitrary _) mrZero)) i ++ [] := rfl
set_option maxHeartbeats 4000000 in
theorem runD_LS1 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS1
      = cnPieces (arg4.view.read (Elt F) (harg4.unread x3)) (arg5.view.read (Elt F) (harg5.unread x4)) (arg7.view.read (Elt F) (harg7.unread x6)) (arg20.view.read (Elt F) (arg20.view.writes (Elt F) (fun _ => Classical.arbitrary _) cnZero)) (arg21.view.read (Elt F) (arg21.view.writes (Elt F) (fun _ => Classical.arbitrary _) mrZero)) ++ cnZero := rfl
set_option maxHeartbeats 4000000 in
theorem runD_LS2 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).LS2
      = mrPieces (arg7.view.read (Elt F) (harg7.unread x6)) (arg21.view.read (Elt F) (arg21.view.writes (Elt F) (fun _ => Classical.arbitrary _) mrZero)) ++ mrZero := rfl
set_option maxHeartbeats 4000000 in
theorem runD_L15 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L15
      = [] := rfl
set_option maxHeartbeats 4000000 in
theorem runD_L16 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L16
      = [] := rfl
set_option maxHeartbeats 4000000 in
theorem runD_L17 (hc0 : ¬atFirst i) (hc1 : atStart i) (hc2 : ¬atEnd i) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2).L17
      = [] := rfl

end Cert.KernelIdeal.Body

end
-- ==== Proof.Body.lean ====
module

public import proofs.«01_k».proof.Proof.Pieces

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! One point of the kernel: from the inputs and the scratch to the outputs and the scratch. -/

section Writes
variable {κ : Kind} {sp : Space}

theorem read_mixZero (v : View sig κ sp S2x512x512 .bf16) (f : v.ty.Contents (Elt F)) :
    v.read (Elt F) (v.writes (Elt F) f mixZero) = (k0_pay11 : Vec F S2x512x512 .bf16) := by
  funext y
  exact View.read_writes_cons_unit_of_mem v f inb_S2x512x512_S2x512x512_0_0_0 k0_pay11 [] y y rfl
    (fun a => match a with | 0 => (Nat.zero_add _).symm | 1 => (Nat.zero_add _).symm | 2 => (Nat.zero_add _).symm)

theorem read_cnZero (v : View sig κ sp S4x144x64 .f32) (f : v.ty.Contents (Elt F)) :
    v.read (Elt F) (v.writes (Elt F) f cnZero) = (k0_pay12 : Vec F S4x144x64 .f32) := by
  funext y
  exact View.read_writes_cons_unit_of_mem v f inb_S4x144x64_S4x144x64_0_0_0 k0_pay12 [] y y rfl
    (fun a => match a with | 0 => (Nat.zero_add _).symm | 1 => (Nat.zero_add _).symm | 2 => (Nat.zero_add _).symm)

theorem read_mrZero (v : View sig κ sp S8x256 .f32) (f : v.ty.Contents (Elt F)) :
    v.read (Elt F) (v.writes (Elt F) f mrZero) = (k0_pay13 : Vec F S8x256 .f32) := by
  funext y
  exact View.read_writes_cons_unit_of_mem v f inb_S8x256_S8x256_0_0 k0_pay13 [] y y rfl
    (fun a => match a with | 0 => (Nat.zero_add _).symm | 1 => (Nat.zero_add _).symm)

theorem read_y (v : View sig κ sp S512x1024 .f32) (f : v.ty.Contents (Elt F)) (x0 : Vec F S512x1024 .f32) (x1 : Vec F S512x512 .bf16)
    (x8 : Vec F S512x1024 .bf16) (x9 : Vec F S512x1024 .bf16) (x10 : Vec F S1x1024 .f32) (x11 : Vec F S1024x4096 .bf16)
    (x12 : Vec F S4096x1024 .bf16) (x13 : Vec F S1x1024 .f32) (xs0 : Vec F S2x512x512 .bf16) (i : grid0.Coords) :
    v.read (Elt F) (v.writes (Elt F) f (yPieces x0 x1 x8 x9 x10 x11 x12 x13 xs0 i)) = yOut x0 x1 x8 x9 x10 x11 x12 x13 xs0 i := by
  funext y
  exact View.read_writes_cons_unit_of_mem v f inb_S512x1024_S512x1024_0_0 _ [] y y rfl
    (fun a => match a with | 0 => (Nat.zero_add _).symm | 1 => (Nat.zero_add _).symm)

theorem cSt_at (cn : Vec F S4x144x64 .f32) (h : Fin 4) (d : Fin 64) (e : Fin 128) :
    cSt cn h (ix4 0 0 d e) = cn (ix3 h ⟨e.val, by omega⟩ d) := by
  unfold cSt k0_pay6
  pointwise

theorem nSt_at (cn : Vec F S4x144x64 .f32) (h : Fin 4) (d : Fin 64) :
    nSt cn h (ix4 0 0 0 d) = cn (ix3 h ⟨128, by omega⟩ d) := by
  unfold nSt k0_pay7
  pointwise

theorem peel_c (v : View sig κ sp S1x4x64x128 .f32) (f : v.ty.Contents (Elt F)) (h' h : Fin 4) (w : Vec F S1x1x64x128 .f32)
    (L : List (View.Piece (Elt F) S1x4x64x128 .f32)) (d : Fin 64) (e : Fin 128) :
    v.read (Elt F) (v.writes (Elt F) f ((⟨Rect.unit ![0, h'.val, 0, 0] S1x1x64x128.size (inb_cwrite h'), w⟩ : View.Piece (Elt F) S1x4x64x128 .f32) :: L)) (ix4 0 h d e)
      = if h = h' then w (ix4 0 0 d e) else v.read (Elt F) (v.writes (Elt F) f L) (ix4 0 h d e) := by
  by_cases q : h = h'
  · subst q
    rw [if_pos rfl]
    exact View.read_writes_cons_unit_of_mem v f (inb_cwrite h) w L _ (ix4 0 0 d e) rfl
      (fun a => match a with | 0 => rfl | 1 => rfl | 2 => (Nat.zero_add _).symm | 3 => (Nat.zero_add _).symm)
  · rw [if_neg q]
    refine View.read_writes_cons_unit_of_not_mem v f (inb_cwrite h') w L _ rfl 1 ?_
    show h.val < h'.val ∨ h'.val + 1 ≤ h.val
    omega

theorem peel_n (v : View sig κ sp S1x4x1x64 .f32) (f : v.ty.Contents (Elt F)) (h' h : Fin 4) (w : Vec F S1x1x1x64 .f32)
    (L : List (View.Piece (Elt F) S1x4x1x64 .f32)) (d : Fin 64) :
    v.read (Elt F) (v.writes (Elt F) f ((⟨Rect.unit ![0, h'.val, 0, 0] S1x1x1x64.size (inb_nwrite h'), w⟩ : View.Piece (Elt F) S1x4x1x64 .f32) :: L)) (ix4 0 h 0 d)
      = if h = h' then w (ix4 0 0 0 d) else v.read (Elt F) (v.writes (Elt F) f L) (ix4 0 h 0 d) := by
  by_cases q : h = h'
  · subst q
    rw [if_pos rfl]
    exact View.read_writes_cons_unit_of_mem v f (inb_nwrite h) w L _ (ix4 0 0 0 d) rfl
      (fun a => match a with | 0 => rfl | 1 => rfl | 2 => rfl | 3 => (Nat.zero_add _).symm)
  · rw [if_neg q]
    refine View.read_writes_cons_unit_of_not_mem v f (inb_nwrite h') w L _ rfl 1 ?_
    show h.val < h'.val ∨ h'.val + 1 ≤ h.val
    omega

set_option maxHeartbeats 1000000 in
theorem read_c (v : View sig κ sp S1x4x64x128 .f32) (f : v.ty.Contents (Elt F)) (cn : Vec F S4x144x64 .f32) :
    v.read (Elt F) (v.writes (Elt F) f (cPieces cn)) = cOut cn := by
  funext y
  obtain ⟨z, h, d, e, rfl⟩ : ∃ z h d e, y = ix4 z h d e := ⟨y 0, y 1, y 2, y 3, eq_ix4 y⟩
  obtain rfl : z = 0 := Subsingleton.elim _ _
  unfold cPieces
  refine (peel_c v f 3 h _ _ d e).trans ?_
  split_ifs with e3
  · subst e3; exact cSt_at _ _ _ _
  refine (peel_c v f 2 h _ _ d e).trans ?_
  split_ifs with e2
  · subst e2; exact cSt_at _ _ _ _
  refine (peel_c v f 1 h _ _ d e).trans ?_
  split_ifs with e1
  · subst e1; exact cSt_at _ _ _ _
  refine (peel_c v f 0 h _ _ d e).trans ?_
  split_ifs with e0
  · subst e0; exact cSt_at _ _ _ _
  omega

set_option maxHeartbeats 1000000 in
theorem read_n (v : View sig κ sp S1x4x1x64 .f32) (f : v.ty.Contents (Elt F)) (cn : Vec F S4x144x64 .f32) :
    v.read (Elt F) (v.writes (Elt F) f (nPieces cn)) = nOut cn := by
  funext y
  obtain ⟨z, h, z', d, rfl⟩ : ∃ z h z' d, y = ix4 z h z' d := ⟨y 0, y 1, y 2, y 3, eq_ix4 y⟩
  obtain rfl : z = 0 := Subsingleton.elim _ _
  obtain rfl : z' = 0 := Subsingleton.elim _ _
  unfold nPieces
  refine (peel_n v f 3 h _ _ d).trans ?_
  split_ifs with e3
  · subst e3; exact nSt_at _ _ _
  refine (peel_n v f 2 h _ _ d).trans ?_
  split_ifs with e2
  · subst e2; exact nSt_at _ _ _
  refine (peel_n v f 1 h _ _ d).trans ?_
  split_ifs with e1
  · subst e1; exact nSt_at _ _ _
  refine (peel_n v f 0 h _ _ d).trans ?_
  split_ifs with e0
  · subst e0; exact nSt_at _ _ _
  omega

theorem read_m (v : View sig κ sp S1x8x256 .f32) (f : v.ty.Contents (Elt F)) (mr : Vec F S8x256 .f32) :
    v.read (Elt F) (v.writes (Elt F) f (mPieces mr)) = mOut mr := by
  funext y
  obtain ⟨z, r, l, rfl⟩ : ∃ z r l, y = ix3 z r l := ⟨y 0, y 1, y 2, eq_ix3 y⟩
  obtain rfl : z = 0 := Subsingleton.elim _ _
  refine (View.read_writes_cons_unit_of_mem v f inb_S1x8x256_S1x8x256_0_0_0 _ [] _ (ix3 0 r l) rfl
    (fun a => match a with | 0 => rfl | 1 => (Nat.zero_add _).symm | 2 => (Nat.zero_add _).symm)).trans ?_
  unfold k0_pay5
  refine (addUnit_at _ _ r l).trans (congrArg mr (funext fun a => ?_))
  match a with
  | 0 => exact Fin.ext (by show 0 + 1 * r.val = r.val; omega)
  | 1 => exact Fin.ext (by show 0 + 1 * l.val = l.val; omega)

end Writes

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S256x512 .bf16) (harg3 : arg3.IsWhole)
  (arg4 : Memref sig .tc .vmem S512x256 .bf16) (harg4 : arg4.IsWhole)
  (arg5 : Memref sig .tc .vmem S512x512 .bf16) (harg5 : arg5.IsWhole)
  (arg6 : Memref sig .tc .vmem S512x512 .f32) (harg6 : arg6.IsWhole)
  (arg7 : Memref sig .tc .vmem S8x512 .f32) (harg7 : arg7.IsWhole)
  (arg8 : Memref sig .tc .vmem S512x256 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S1x4x64x128 .f32) (harg16 : arg16.IsWhole)
  (arg17 : Memref sig .tc .vmem S1x4x1x64 .f32) (harg17 : arg17.IsWhole)
  (arg18 : Memref sig .tc .vmem S1x8x256 .f32) (harg18 : arg18.IsWhole)
  (arg19 : Memref sig .tc .vmem S2x512x512 .bf16) (harg19 : arg19.IsWhole)
  (arg20 : Memref sig .tc .vmem S4x144x64 .f32) (harg20 : arg20.IsWhole)
  (arg21 : Memref sig .tc .vmem S8x256 .f32) (harg21 : arg21.IsWhole)
  (x0 : Vec F S512x1024 .f32) (x1 : Vec F S512x512 .bf16) (x2 : Vec F S256x512 .bf16) (x3 : Vec F S512x256 .bf16) (x4 : Vec F S512x512 .bf16) (x5 : Vec F S512x512 .f32) (x6 : Vec F S8x512 .f32) (x7 : Vec F S512x256 .f32) (x8 : Vec F S512x1024 .bf16) (x9 : Vec F S512x1024 .bf16) (x10 : Vec F S1x1024 .f32) (x11 : Vec F S1024x4096 .bf16) (x12 : Vec F S4096x1024 .bf16) (x13 : Vec F S1x1024 .f32)
  (xs0 : Vec F S2x512x512 .bf16) (xs1 : Vec F S4x144x64 .f32) (xs2 : Vec F S8x256 .f32)

/-- The scratch the point goes on from: cleared at the first point, or at the first tile of a sequence. -/
def base0 : Vec F S2x512x512 .bf16 := if atFirst i then k0_pay11 else xs0
def base1 : Vec F S4x144x64 .f32 := if atStart i then k0_pay12 else xs1
def base2 : Vec F S8x256 .f32 := if atStart i then k0_pay13 else xs2

set_option maxHeartbeats 1000000 in
/-- From a run of the body to what each buffer holds after it. -/
theorem triple_of_run (r : BodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2) (y : Vec F S512x1024 .f32) (co : Vec F S1x4x64x128 .f32 → Vec F S1x4x64x128 .f32)
    (no : Vec F S1x4x1x64 .f32 → Vec F S1x4x1x64 .f32) (mo : Vec F S1x8x256 .f32 → Vec F S1x8x256 .f32)
    (mix : Vec F S2x512x512 .bf16) (cn : Vec F S4x144x64 .f32) (mr : Vec F S8x256 .f32)
    (hy : ∀ f, arg15.view.read (Elt F) (arg15.view.writes (Elt F) f r.L14) = y)
    (hco : ∀ x, arg16.view.read (Elt F) (arg16.view.writes (Elt F) (harg16.unread x) r.L15) = co x)
    (hno : ∀ x, arg17.view.read (Elt F) (arg17.view.writes (Elt F) (harg17.unread x) r.L16) = no x)
    (hmo : ∀ x, arg18.view.read (Elt F) (arg18.view.writes (Elt F) (harg18.unread x) r.L17) = mo x)
    (hmix : ∀ f, (¬atFirst i → f = harg19.unread xs0) → arg19.view.read (Elt F) (arg19.view.writes (Elt F) f r.LS0) = mix)
    (hcn : ∀ f, arg20.view.read (Elt F) (arg20.view.writes (Elt F) f r.LS1) = cn)
    (hmr : ∀ f, arg21.view.read (Elt F) (arg21.view.writes (Elt F) f r.LS2) = mr)
    (xi15 : Vec F S1x4x64x128 .f32) (xi16 : Vec F S1x4x1x64 .f32) (xi17 : Vec F S1x8x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xi15 ∗ owns (c : Thread nD τ) arg17 fullShare xi16 ∗ owns (c : Thread nD τ) arg18 fullShare xi17 ∗ owns (c : Thread nD τ) arg19 fullShare xs0 ∗ owns (c : Thread nD τ) arg20 fullShare xs1 ∗ owns (c : Thread nD τ) arg21 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare y ∗ owns (c : Thread nD τ) arg16 fullShare (co xi15) ∗ owns (c : Thread nD τ) arg17 fullShare (no xi16)
        ∗ owns (c : Thread nD τ) arg18 fullShare (mo xi17) ∗ owns (c : Thread nD τ) arg19 fullShare mix ∗ owns (c : Thread nD τ) arg20 fullShare cn ∗ owns (c : Thread nD τ) arg21 fullShare mr) -∗ K ⟨⟩))
      ⊢ wp frame (wpE (defs₀ (F := F)) Variants.none c none) E (cc0_mlstm_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  refine BIBase.Entails.trans ?_ (r.run xi15 xi16 xi17 E K)
  iintro ⟨H0, H1, H2, H3, H4, H5, H6, H7, H8, H9, H10, H11, H12, H13, H14, H15, H16, H17, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  iintro ⟨H0, H1, H2, H3, H4, H5, H6, H7, H8, H9, H10, H11, H12, H13, ⟨%f14, H14⟩, ⟨%f15, H15, %hf15⟩, ⟨%f16, H16, %hf16⟩, ⟨%f17, H17, %hf17⟩, ⟨%g0, HS0, %hg0⟩, ⟨%g1, HS1⟩, ⟨%g2, HS2⟩⟩
  subst hf15 hf16 hf17
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns
  isplitl [H14]
  · iexists _; isplitr
    · ipureintro; exact hy f14
    · iexact H14
  isplitl [H15]
  · iexists _; isplitr
    · ipureintro; exact hco xi15
    · iexact H15
  isplitl [H16]
  · iexists _; isplitr
    · ipureintro; exact hno xi16
    · iexact H16
  isplitl [H17]
  · iexists _; isplitr
    · ipureintro; exact hmo xi17
    · iexact H17
  isplitl [HS0]
  · iexists _; isplitr
    · ipureintro; exact hmix g0 hg0
    · iexact HS0
  isplitl [HS1]
  · iexists _; isplitr
    · ipureintro; exact hcn g1
    · iexact HS1
  iexists _; isplitr
  · ipureintro; exact hmr g2
  · iexact HS2

set_option maxHeartbeats 2000000 in
/-- A point of the kernel: the inputs kept, the rows of the tile before stored, the scratch gone on, the state written out at the end of
a sequence. -/
theorem body_triple (h01 : atFirst i → atStart i) (h12 : atStart i → ¬atEnd i)
    (xi15 : Vec F S1x4x64x128 .f32) (xi16 : Vec F S1x4x1x64 .f32) (xi17 : Vec F S1x8x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xi15 ∗ owns (c : Thread nD τ) arg17 fullShare xi16 ∗ owns (c : Thread nD τ) arg18 fullShare xi17 ∗ owns (c : Thread nD τ) arg19 fullShare xs0 ∗ owns (c : Thread nD τ) arg20 fullShare xs1 ∗ owns (c : Thread nD τ) arg21 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (yOut x0 x1 x8 x9 x10 x11 x12 x13 (base0 i xs0) i) ∗ owns (c : Thread nD τ) arg16 fullShare (if atEnd i then cOut (cnOut x3 x4 x6 (base1 i xs1) (base2 i xs2)) else xi15) ∗ owns (c : Thread nD τ) arg17 fullShare (if atEnd i then nOut (cnOut x3 x4 x6 (base1 i xs1) (base2 i xs2)) else xi16)
        ∗ owns (c : Thread nD τ) arg18 fullShare (if atEnd i then mOut (mrOut x6 (base2 i xs2)) else xi17) ∗ owns (c : Thread nD τ) arg19 fullShare (mixOut x2 x3 x4 x5 x6 x7 (base1 i xs1) (base2 i xs2) ((i 0).val % 2) (base0 i xs0)) ∗ owns (c : Thread nD τ) arg20 fullShare (cnOut x3 x4 x6 (base1 i xs1) (base2 i xs2)) ∗ owns (c : Thread nD τ) arg21 fullShare (mrOut x6 (base2 i xs2))) -∗ K ⟨⟩))
      ⊢ wp frame (wpE (defs₀ (F := F)) Variants.none c none) E (cc0_mlstm_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  by_cases hc0 : atFirst i
  · have hc1 := h01 hc0
    have hc2 := h12 hc1
    rw [show base0 i xs0 = k0_pay11 from if_pos hc0, show base1 i xs1 = k0_pay12 from if_pos hc1, show base2 i xs2 = k0_pay13 from if_pos hc1]
    refine triple_of_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2) _ (fun x => if atEnd i then cOut _ else x) (fun x => if atEnd i then nOut _ else x) (fun x => if atEnd i then mOut _ else x) _ _ _ ?_ ?_ ?_ ?_ ?_ ?_ ?_ xi15 xi16 xi17 E K
    · intro f; rw [runA_L14, read_y]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    · intro x; rw [runA_L15, if_neg hc2]; exact Memref.IsWhole.read_unread _ _
    · intro x; rw [runA_L16, if_neg hc2]; exact Memref.IsWhole.read_unread _ _
    · intro x; rw [runA_L17, if_neg hc2]; exact Memref.IsWhole.read_unread _ _
    · intro f _; rw [runA_LS0, read_mix, read_mixZero]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    · intro f; rw [runA_LS1, read_cn]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    · intro f; rw [runA_LS2, read_mr]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  · by_cases hc1 : atStart i
    · have hc2 := h12 hc1
      rw [show base0 i xs0 = xs0 from if_neg hc0, show base1 i xs1 = k0_pay12 from if_pos hc1, show base2 i xs2 = k0_pay13 from if_pos hc1]
      refine triple_of_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2) _ (fun x => if atEnd i then cOut _ else x) (fun x => if atEnd i then nOut _ else x) (fun x => if atEnd i then mOut _ else x) _ _ _ ?_ ?_ ?_ ?_ ?_ ?_ ?_ xi15 xi16 xi17 E K
      · intro f; rw [runD_L14, read_y]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
      · intro x; rw [runD_L15, if_neg hc2]; exact Memref.IsWhole.read_unread _ _
      · intro x; rw [runD_L16, if_neg hc2]; exact Memref.IsWhole.read_unread _ _
      · intro x; rw [runD_L17, if_neg hc2]; exact Memref.IsWhole.read_unread _ _
      · intro f hf; rw [hf hc0, runD_LS0, read_mix]; simp only [View.writes_nil, read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
      · intro f; rw [runD_LS1, read_cn]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
      · intro f; rw [runD_LS2, read_mr]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    · by_cases hc2 : atEnd i
      · rw [show base0 i xs0 = xs0 from if_neg hc0, show base1 i xs1 = xs1 from if_neg hc1, show base2 i xs2 = xs2 from if_neg hc1]
        refine triple_of_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2) _ (fun x => if atEnd i then cOut _ else x) (fun x => if atEnd i then nOut _ else x) (fun x => if atEnd i then mOut _ else x) _ _ _ ?_ ?_ ?_ ?_ ?_ ?_ ?_ xi15 xi16 xi17 E K
        · intro f; rw [runC_L14, read_y]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro x; rw [runC_L15, read_c, read_cn, if_pos hc2]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro x; rw [runC_L16, read_n, read_cn, if_pos hc2]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro x; rw [runC_L17, read_m, read_mr, if_pos hc2]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro f hf; rw [hf hc0, runC_LS0, read_mix]; simp only [View.writes_nil, read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro f; rw [runC_LS1, read_cn]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro f; rw [runC_LS2, read_mr]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
      · rw [show base0 i xs0 = xs0 from if_neg hc0, show base1 i xs1 = xs1 from if_neg hc1, show base2 i xs2 = xs2 from if_neg hc1]
        refine triple_of_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xs0 xs1 xs2 hc0 hc1 hc2) _ (fun x => if atEnd i then cOut _ else x) (fun x => if atEnd i then nOut _ else x) (fun x => if atEnd i then mOut _ else x) _ _ _ ?_ ?_ ?_ ?_ ?_ ?_ ?_ xi15 xi16 xi17 E K
        · intro f; rw [runB_L14, read_y]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro x; rw [runB_L15, if_neg hc2]; exact Memref.IsWhole.read_unread _ _
        · intro x; rw [runB_L16, if_neg hc2]; exact Memref.IsWhole.read_unread _ _
        · intro x; rw [runB_L17, if_neg hc2]; exact Memref.IsWhole.read_unread _ _
        · intro f hf; rw [hf hc0, runB_LS0, read_mix]; simp only [View.writes_nil, read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro f; rw [runB_LS1, read_cn]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        · intro f; rw [runB_LS2, read_mr]; simp only [read_mixZero, read_cnZero, read_mrZero, harg19.read_unread, harg20.read_unread, harg21.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]

end Cert.KernelIdeal.Body

end
-- ==== Proof.Track.lean ====
module

public import proofs.«01_k».proof.Proof.Body
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The kernel point by point: what the scratch holds after each point, the proof data of the pipeline, the run and the frame. -/

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)
abbrev ms0_7 (t : Fin cfg0.N) := win0_7.stage (cfg0.slots t 7)
theorem hs0_7 (t : Fin cfg0.N) : (ms0_7 t).IsWhole := hstage0_7 ((cfg0.slots t 7).cast nbuf0_7)
abbrev ms0_8 (t : Fin cfg0.N) := win0_8.stage (cfg0.slots t 8)
theorem hs0_8 (t : Fin cfg0.N) : (ms0_8 t).IsWhole := hstage0_8 ((cfg0.slots t 8).cast nbuf0_8)
abbrev ms0_9 (t : Fin cfg0.N) := win0_9.stage (cfg0.slots t 9)
theorem hs0_9 (t : Fin cfg0.N) : (ms0_9 t).IsWhole := hstage0_9 ((cfg0.slots t 9).cast nbuf0_9)
abbrev ms0_10 (t : Fin cfg0.N) := win0_10.stage (cfg0.slots t 10)
theorem hs0_10 (t : Fin cfg0.N) : (ms0_10 t).IsWhole := hstage0_10 ((cfg0.slots t 10).cast nbuf0_10)
abbrev ms0_11 (t : Fin cfg0.N) := win0_11.stage (cfg0.slots t 11)
theorem hs0_11 (t : Fin cfg0.N) : (ms0_11 t).IsWhole := hstage0_11 ((cfg0.slots t 11).cast nbuf0_11)
abbrev ms0_12 (t : Fin cfg0.N) := win0_12.stage (cfg0.slots t 12)
theorem hs0_12 (t : Fin cfg0.N) : (ms0_12 t).IsWhole := hstage0_12 ((cfg0.slots t 12).cast nbuf0_12)
abbrev ms0_13 (t : Fin cfg0.N) := win0_13.stage (cfg0.slots t 13)
theorem hs0_13 (t : Fin cfg0.N) : (ms0_13 t).IsWhole := hstage0_13 ((cfg0.slots t 13).cast nbuf0_13)
abbrev ms0_14 (t : Fin cfg0.N) := win0_14.stage (cfg0.slots t 14)
theorem hs0_14 (t : Fin cfg0.N) : (ms0_14 t).IsWhole := hstage0_14 ((cfg0.slots t 14).cast nbuf0_14)
abbrev ms0_15 (t : Fin cfg0.N) := win0_15.stage (cfg0.slots t 15)
theorem hs0_15 (t : Fin cfg0.N) : (ms0_15 t).IsWhole := hstage0_15 ((cfg0.slots t 15).cast nbuf0_15)
abbrev ms0_16 (t : Fin cfg0.N) := win0_16.stage (cfg0.slots t 16)
theorem hs0_16 (t : Fin cfg0.N) : (ms0_16 t).IsWhole := hstage0_16 ((cfg0.slots t 16).cast nbuf0_16)
abbrev ms0_17 (t : Fin cfg0.N) := win0_17.stage (cfg0.slots t 17)
theorem hs0_17 (t : Fin cfg0.N) : (ms0_17 t).IsWhole := hstage0_17 ((cfg0.slots t 17).cast nbuf0_17)
abbrev scM0_0 := Memref.whole cc0_scratch0
abbrev scM0_1 := Memref.whole cc0_scratch1
abbrev scM0_2 := Memref.whole cc0_scratch2

/-- What the region hands over at its start: the scratch at anything, the generator register at some state. -/
theorem PhiA0_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The scratch: the mixed rows of two tiles, the state, the stabilizer. -/
structure Scratch (F : FTy → Type) [FloatOps F] where
  mix : Vec F S2x512x512 .bf16
  cn : Vec F S4x144x64 .f32
  mr : Vec F S8x256 .f32

/-- The scratch after a point, from the scratch before it. -/
def stepOf (c : Dev nD) (t : Fin cfg0.N) (s : Scratch F) : Scratch F where
  mix := mixOut (iblk m c 2 t) (iblk m c 3 t) (iblk m c 4 t) (iblk m c 5 t) (iblk m c 6 t) (iblk m c 7 t)
    (base1 (grid0.coords t) s.cn) (base2 (grid0.coords t) s.mr) ((grid0.coords t 0).val % 2) (base0 (grid0.coords t) s.mix)
  cn := cnOut (iblk m c 3 t) (iblk m c 4 t) (iblk m c 6 t) (base1 (grid0.coords t) s.cn) (base2 (grid0.coords t) s.mr)
  mr := mrOut (iblk m c 6 t) (base2 (grid0.coords t) s.mr)

/-- The scratch before point `n`. -/
def St (c : Dev nD) : ℕ → Scratch F
  | 0 => ⟨k0_pay11, k0_pay12, k0_pay13⟩
  | n + 1 => if h : n < cfg0.N then stepOf m c ⟨n, h⟩ (St c n) else St c n

theorem St_succ (c : Dev nD) (t : Fin cfg0.N) : St m c (t.val + 1) = stepOf m c t (St m c t.val) := dif_pos t.isLt

/-- The rows of the tile before, as the point stores them. -/
def yAt (c : Dev nD) (t : Fin cfg0.N) : Vec F S512x1024 .f32 :=
  yOut (iblk m c 0 t) (iblk m c 1 t) (iblk m c 8 t) (iblk m c 9 t) (iblk m c 10 t) (iblk m c 11 t) (iblk m c 12 t) (iblk m c 13 t)
    (base0 (grid0.coords t) (St m c t.val).mix) (grid0.coords t)

/-- The region invariant before point `n`. -/
def PhiS (c : Dev nD) : (n : ℕ) → n ≤ cfg0.N → sProp 𝕄
  | 0, _ => Pipeline.ΦA spec0 c
  | n + 1, _ => iprop(iprop(owns (c : Thread nD τ) scM0_0 fullShare (St m c (n + 1)).mix ∗ owns (c : Thread nD τ) scM0_1 fullShare (St m c (n + 1)).cn ∗ owns (c : Thread nD τ) scM0_2 fullShare (St m c (n + 1)).mr) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM0_0 fullShare (St m c n).mix ∗ owns (c : Thread nD τ) scM0_1 fullShare (St m c n).cn ∗ owns (c : Thread nD τ) scM0_2 fullShare (St m c n).mr) ∗ (∃ r, prngReg c r)) := by
  cases n with
  | zero => exact absurd rfl hz
  | succ n => rfl

/-- The proof data: each input's buffer at its block; the rows stored; the state written out at a sequence's last tile (the point past
the last tile keeps what the last tile wrote). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => yAt m c t
    | ⟨15, _⟩ => cOut (St m c (min t.val 63 + 1)).cn
    | ⟨16, _⟩ => nOut (St m c (min t.val 63 + 1)).cn
    | ⟨17, _⟩ => mOut (St m c (min t.val 63 + 1)).mr
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = yAt m c t := by dsimp only [dats]
theorem after0_15 (c : Dev nD) (t : Fin cfg0.N) : (dats m 0 c).after 15 t = cOut (St m c (min t.val 63 + 1)).cn := by dsimp only [dats]
theorem after0_16 (c : Dev nD) (t : Fin cfg0.N) : (dats m 0 c).after 16 t = nOut (St m c (min t.val 63 + 1)).cn := by dsimp only [dats]
theorem after0_17 (c : Dev nD) (t : Fin cfg0.N) : (dats m 0 c).after 17 t = mOut (St m c (min t.val 63 + 1)).mr := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl

theorem idle0_15 : ∀ t : Fin cfg0.N, cfg0.idle 15 (grid0.coords t) = !decide (t.val % 4 = 3) :=
  (by decide +kernel : ∀ t : Fin grid0.N, cfg0.idle 15 (grid0.coords t) = !decide (t.val % 4 = 3))
theorem fetch0_15' : ∀ t : Fin cfg0.N, (cfg0.win 15).fetch t = false := by decide +kernel
theorem flush0_15' : ∀ t : Fin cfg0.N, (cfg0.win 15).flush t = decide (t.val % 4 = 3 ∧ t.val ≠ 63 ∨ t.val = 64) := by decide +kernel

/-- Output 15 after a point: written at a sequence's last tile, else as it was. -/
theorem leaves0_15 (c : Dev nD) (t : Fin cfg0.N) (d) :
    owns (c : Thread nD τ) (ms0_15 t) fullShare (if atEnd (grid0.coords t) then cOut (cnOut (iblk m c 3 t) (iblk m c 4 t) (iblk m c 6 t) (base1 (grid0.coords t) (St m c t.val).cn) (base2 (grid0.coords t) (St m c t.val).mr)) else (dats m 0 c).before 15 t d)
      ⊢ (dats m 0 c).leavesExact 15 t := by
  have hN : t.val < 65 := lt_of_lt_of_eq t.isLt (show cfg0.N = 65 from N_0)
  by_cases he : t.val % 4 = 3
  · rw [if_pos ((atEnd_iff t).mpr he)]
    rw [show (dats m 0 c).leavesExact 15 t = owns (c : Thread nD τ) (ms0_15 t) fullShare ((dats m 0 c).after 15 t) from by
      unfold Dat.leavesExact; rw [idle0_15 t, decide_eq_true he]; rfl, after0_15, show min t.val 63 = t.val from by omega, St_succ]
    exact Idealize.SL.BI.Entails.refl _
  · rw [if_neg (fun h => he ((atEnd_iff t).mp h))]
    by_cases hl : t.val = 64
    · rw [show (dats m 0 c).leavesExact 15 t = owns (c : Thread nD τ) (ms0_15 t) fullShare ((dats m 0 c).after 15 t) from by
        unfold Dat.leavesExact; rw [idle0_15 t, decide_eq_false he, flush0_15' t, decide_eq_true (Or.inr hl)]; rfl]
      rw [Dat.before_of_pos (dats m 0 c) 15 t (by omega) (fetch0_15' t) d, flush0_15', decide_eq_false (by show ¬((t.val - 1) % 4 = 3 ∧ t.val - 1 ≠ 63 ∨ t.val - 1 = 64); omega), if_neg Bool.false_ne_true]
      rw [show (dats m 0 c).left 15 ⟨t.val - 1, Nat.lt_of_le_of_lt (Nat.sub_le _ _) t.isLt⟩ d = (dats m 0 c).after 15 ⟨t.val - 1, Nat.lt_of_le_of_lt (Nat.sub_le _ _) t.isLt⟩ from by
        unfold Dat.left; rw [idle0_15, decide_eq_true (by show (t.val - 1) % 4 = 3; omega)]; rfl]
      rw [after0_15, after0_15, show min t.val 63 = min (t.val - 1) 63 from by omega]
    · rw [Dat.leavesExact_idle (dats m 0 c) 15 t (by rw [idle0_15 t, decide_eq_false he]; rfl) (by rw [flush0_15' t]; exact decide_eq_false (by omega))]
      iintro H
      iexists d
      iexact H

theorem idle0_16 : ∀ t : Fin cfg0.N, cfg0.idle 16 (grid0.coords t) = !decide (t.val % 4 = 3) :=
  (by decide +kernel : ∀ t : Fin grid0.N, cfg0.idle 16 (grid0.coords t) = !decide (t.val % 4 = 3))
theorem fetch0_16' : ∀ t : Fin cfg0.N, (cfg0.win 16).fetch t = false := by decide +kernel
theorem flush0_16' : ∀ t : Fin cfg0.N, (cfg0.win 16).flush t = decide (t.val % 4 = 3 ∧ t.val ≠ 63 ∨ t.val = 64) := by decide +kernel

/-- Output 16 after a point: written at a sequence's last tile, else as it was. -/
theorem leaves0_16 (c : Dev nD) (t : Fin cfg0.N) (d) :
    owns (c : Thread nD τ) (ms0_16 t) fullShare (if atEnd (grid0.coords t) then nOut (cnOut (iblk m c 3 t) (iblk m c 4 t) (iblk m c 6 t) (base1 (grid0.coords t) (St m c t.val).cn) (base2 (grid0.coords t) (St m c t.val).mr)) else (dats m 0 c).before 16 t d)
      ⊢ (dats m 0 c).leavesExact 16 t := by
  have hN : t.val < 65 := lt_of_lt_of_eq t.isLt (show cfg0.N = 65 from N_0)
  by_cases he : t.val % 4 = 3
  · rw [if_pos ((atEnd_iff t).mpr he)]
    rw [show (dats m 0 c).leavesExact 16 t = owns (c : Thread nD τ) (ms0_16 t) fullShare ((dats m 0 c).after 16 t) from by
      unfold Dat.leavesExact; rw [idle0_16 t, decide_eq_true he]; rfl, after0_16, show min t.val 63 = t.val from by omega, St_succ]
    exact Idealize.SL.BI.Entails.refl _
  · rw [if_neg (fun h => he ((atEnd_iff t).mp h))]
    by_cases hl : t.val = 64
    · rw [show (dats m 0 c).leavesExact 16 t = owns (c : Thread nD τ) (ms0_16 t) fullShare ((dats m 0 c).after 16 t) from by
        unfold Dat.leavesExact; rw [idle0_16 t, decide_eq_false he, flush0_16' t, decide_eq_true (Or.inr hl)]; rfl]
      rw [Dat.before_of_pos (dats m 0 c) 16 t (by omega) (fetch0_16' t) d, flush0_16', decide_eq_false (by show ¬((t.val - 1) % 4 = 3 ∧ t.val - 1 ≠ 63 ∨ t.val - 1 = 64); omega), if_neg Bool.false_ne_true]
      rw [show (dats m 0 c).left 16 ⟨t.val - 1, Nat.lt_of_le_of_lt (Nat.sub_le _ _) t.isLt⟩ d = (dats m 0 c).after 16 ⟨t.val - 1, Nat.lt_of_le_of_lt (Nat.sub_le _ _) t.isLt⟩ from by
        unfold Dat.left; rw [idle0_16, decide_eq_true (by show (t.val - 1) % 4 = 3; omega)]; rfl]
      rw [after0_16, after0_16, show min t.val 63 = min (t.val - 1) 63 from by omega]
    · rw [Dat.leavesExact_idle (dats m 0 c) 16 t (by rw [idle0_16 t, decide_eq_false he]; rfl) (by rw [flush0_16' t]; exact decide_eq_false (by omega))]
      iintro H
      iexists d
      iexact H

theorem idle0_17 : ∀ t : Fin cfg0.N, cfg0.idle 17 (grid0.coords t) = !decide (t.val % 4 = 3) :=
  (by decide +kernel : ∀ t : Fin grid0.N, cfg0.idle 17 (grid0.coords t) = !decide (t.val % 4 = 3))
theorem fetch0_17' : ∀ t : Fin cfg0.N, (cfg0.win 17).fetch t = false := by decide +kernel
theorem flush0_17' : ∀ t : Fin cfg0.N, (cfg0.win 17).flush t = decide (t.val % 4 = 3 ∧ t.val ≠ 63 ∨ t.val = 64) := by decide +kernel

/-- Output 17 after a point: written at a sequence's last tile, else as it was. -/
theorem leaves0_17 (c : Dev nD) (t : Fin cfg0.N) (d) :
    owns (c : Thread nD τ) (ms0_17 t) fullShare (if atEnd (grid0.coords t) then mOut (mrOut (iblk m c 6 t) (base2 (grid0.coords t) (St m c t.val).mr)) else (dats m 0 c).before 17 t d)
      ⊢ (dats m 0 c).leavesExact 17 t := by
  have hN : t.val < 65 := lt_of_lt_of_eq t.isLt (show cfg0.N = 65 from N_0)
  by_cases he : t.val % 4 = 3
  · rw [if_pos ((atEnd_iff t).mpr he)]
    rw [show (dats m 0 c).leavesExact 17 t = owns (c : Thread nD τ) (ms0_17 t) fullShare ((dats m 0 c).after 17 t) from by
      unfold Dat.leavesExact; rw [idle0_17 t, decide_eq_true he]; rfl, after0_17, show min t.val 63 = t.val from by omega, St_succ]
    exact Idealize.SL.BI.Entails.refl _
  · rw [if_neg (fun h => he ((atEnd_iff t).mp h))]
    by_cases hl : t.val = 64
    · rw [show (dats m 0 c).leavesExact 17 t = owns (c : Thread nD τ) (ms0_17 t) fullShare ((dats m 0 c).after 17 t) from by
        unfold Dat.leavesExact; rw [idle0_17 t, decide_eq_false he, flush0_17' t, decide_eq_true (Or.inr hl)]; rfl]
      rw [Dat.before_of_pos (dats m 0 c) 17 t (by omega) (fetch0_17' t) d, flush0_17', decide_eq_false (by show ¬((t.val - 1) % 4 = 3 ∧ t.val - 1 ≠ 63 ∨ t.val - 1 = 64); omega), if_neg Bool.false_ne_true]
      rw [show (dats m 0 c).left 17 ⟨t.val - 1, Nat.lt_of_le_of_lt (Nat.sub_le _ _) t.isLt⟩ d = (dats m 0 c).after 17 ⟨t.val - 1, Nat.lt_of_le_of_lt (Nat.sub_le _ _) t.isLt⟩ from by
        unfold Dat.left; rw [idle0_17, decide_eq_true (by show (t.val - 1) % 4 = 3; omega)]; rfl]
      rw [after0_17, after0_17, show min t.val 63 = min (t.val - 1) 63 from by omega]
    · rw [Dat.leavesExact_idle (dats m 0 c) 17 t (by rw [idle0_17 t, decide_eq_false he]; rfl) (by rw [flush0_17' t]; exact decide_eq_false (by omega))]
      iintro H
      iexists d
      iexact H

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

theorem scratch_pre (c : Dev nD) (t : Fin cfg0.N) : (dats m 0 c).Φ t.castSucc
    ⊢ iprop(∃ s : Scratch F, ⌜stepOf m c t s = stepOf m c t (St m c t.val) ∧ base0 (grid0.coords t) s.mix = base0 (grid0.coords t) (St m c t.val).mix
          ∧ base1 (grid0.coords t) s.cn = base1 (grid0.coords t) (St m c t.val).cn ∧ base2 (grid0.coords t) s.mr = base2 (grid0.coords t) (St m c t.val).mr⌝
        ∗ (owns (c : Thread nD τ) scM0_0 fullShare s.mix ∗ owns (c : Thread nD τ) scM0_1 fullShare s.cn ∗ owns (c : Thread nD τ) scM0_2 fullShare s.mr) ∗ (∃ r, prngReg c r)) := by
  rw [PhiS_castSucc]
  by_cases hz : t.val = 0
  · have a0 : atFirst (grid0.coords t) := (atFirst_iff t).mpr hz
    have a1 : atStart (grid0.coords t) := (atStart_iff t).mpr (by omega)
    have b0 : ∀ x y : Vec F S2x512x512 .bf16, base0 (grid0.coords t) x = base0 (grid0.coords t) y := fun x y => (if_pos a0).trans (if_pos a0).symm
    have b1 : ∀ x y : Vec F S4x144x64 .f32, base1 (grid0.coords t) x = base1 (grid0.coords t) y := fun x y => (if_pos a1).trans (if_pos a1).symm
    have b2 : ∀ x y : Vec F S8x256 .f32, base2 (grid0.coords t) x = base2 (grid0.coords t) y := fun x y => (if_pos a1).trans (if_pos a1).symm
    rw [PhiS_zero m c _ _ hz, PhiA0_eq]
    iintro ⟨⟨⟨%d0, HS0⟩, ⟨%d1, HS1⟩, ⟨%d2, HS2⟩⟩, Hg⟩
    iexists (⟨d0, d1, d2⟩ : Scratch F)
    isplitr
    · ipureintro
      refine ⟨?_, b0 _ _, b1 _ _, b2 _ _⟩
      unfold stepOf
      rw [b0 d0 (St m c t.val).mix, b1 d1 (St m c t.val).cn, b2 d2 (St m c t.val).mr]
    isplitr [Hg]
    · isplitl [HS0]; · iexact HS0
      isplitl [HS1]; · iexact HS1
      iexact HS2
    iexact Hg
  · rw [PhiS_pos m c _ _ hz]
    iintro ⟨HS, Hg⟩
    iexists (St m c t.val)
    isplitr
    · ipureintro; exact ⟨rfl, rfl, rfl, rfl⟩
    isplitl [HS]; · iexact HS
    iexact Hg

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  have h01 : atFirst (grid0.coords t) → atStart (grid0.coords t) := fun h => (atStart_iff t).mpr (by have := (atFirst_iff t).mp h; omega)
  have h12 : atStart (grid0.coords t) → ¬atEnd (grid0.coords t) := fun h h' => by
    have := (atStart_iff t).mp h; have := (atEnd_iff t).mp h'; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), St_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  icases (scratch_pre m c t) $$ HΦ with ⟨%s, %hs, ⟨HS0, HS1, HS2⟩, Hg⟩
  obtain ⟨hst, hb0, hb1, hb2⟩ := hs
  iapply (body_triple c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s.mix s.cn s.mr h01 h12 _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [H17]; · iexact H17
  isplitl [HS0]; · iexact HS0
  isplitl [HS1]; · iexact HS1
  isplitl [HS2]; · iexact HS2
  iintro ⟨H0, H1, H2, H3, H4, H5, H6, H7, H8, H9, H10, H11, H12, H13, H14, H15, H16, H17, HS0, HS1, HS2⟩
  rw [← hst]
  isplitr [Ho H0 H1 H2 H3 H4 H5 H6 H7 H8 H9 H10 H11 H12 H13 H14 H15 H16 H17]
  · isplitr [Hg]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  rw [hb0, hb1, hb2]
  isplitl [H14]; · iexact H14
  isplitl [H15]; · iapply (leaves0_15 m c t d15); iexact H15
  isplitl [H16]; · iapply (leaves0_16 m c t d16); iexact H16
  iapply (leaves0_17 m c t d17); iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track`'s implicit arguments are found by unifying its conclusion with this one, which takes unfolding plain
-- definitions in a metavariable's type
set_option backward.isDefEq.respectTransparency.types false in
/-- The run of @main: the arrays of the pipeline at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame at any values, the counters at zero with it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Body

end
-- ==== Proof.Same.lean ====
module

public import proofs.«01_k».proof.Defs
public import proofs.«01_k».proof.Proof.Gen.Kernel
public import proofs.«01_k».proof.Proof.Gen.KernelIdeal
public import proofs.«01_k».proof.Proof.Track

@[expose] public section

set_option maxRecDepth 16384

namespace Cert.Proof

open Idealize.ShloMosaic Idealize.SL.Sem

/-! The kernel and its idealized form are one text: their bodies, their entry points and their runs are equal. -/

set_option maxHeartbeats 0 in
theorem body_eq : Cert.KernelIdeal.defs₀ (F := Bits) = Cert.Kernel.defs₀ (F := Bits) := by
  unfold Cert.KernelIdeal.defs₀ Cert.Kernel.defs₀
  refine congrArg Defs.onTc (funext fun l => funext fun x => ?_)
  match l, x with
  | 0, (t, s) => rfl
  | ⟨_ + 1, h⟩, _ => exact absurd h (Nat.not_lt.2 (Nat.le_add_left _ _))

set_option maxHeartbeats 0 in
theorem defs_eq : Cert.KernelIdeal.defs (F := Bits) = Cert.Kernel.defs (F := Bits) := by
  unfold Cert.KernelIdeal.defs Cert.Kernel.defs
  rw [body_eq]
  rfl

set_option maxHeartbeats 0 in
theorem main_eq : Cert.KernelIdeal.main (F := Bits) = Cert.Kernel.main (F := Bits) := rfl

set_option maxHeartbeats 0 in
/-- The kernel on the machine's formats: the run of the idealized program, read at those formats. -/
theorem frame_kernel : Cert.quiescent_Kernel := fun m ρ _ => by
  have h := Cert.KernelIdeal.Body.frame (F := Bits) m ρ
  rw [defs_eq, main_eq] at h
  exact h

end Cert.Proof

end
-- ==== Proof.Model.lean ====
module

public import Mathlib.Analysis.SpecialFunctions.Exp
public import Mathlib.Data.EReal.Basic
public import Mathlib.Data.EReal.Operations
public import Mathlib.Algebra.BigOperators.Fin

@[expose] public section

noncomputable section

namespace Cert.Model

open Finset

/-! The gated recurrence of one head over one sequence, on the real numbers: `f` are the log forget gates, `i` the input
gates, position by position. After `n` positions the stabilizer is `bsum f n + top f i n`, and a quantity the recurrence
accumulates, `u` a position, stands at `state f i u n`. -/

variable (f i u : ℕ → ℝ)

/-- The sum of the first `n` log forget gates. -/
def bsum (n : ℕ) : ℝ := ∑ s ∈ range n, f s
/-- A position's input gate less the forget gates up to it. -/
def adj (s : ℕ) : ℝ := i s - bsum f (s + 1)
/-- The largest of those among the first `n` positions, and zero. -/
def top : ℕ → ℝ
  | 0 => 0
  | n + 1 => max (top n) (adj f i n)
/-- A position's weight after `n` positions. -/
def wgt (n s : ℕ) : ℝ := Real.exp (adj f i s - top f i n)
/-- What is accumulated after `n` positions. -/
def state (n : ℕ) : ℝ := ∑ s ∈ range n, wgt f i n s * u s

theorem bsum_zero : bsum f 0 = 0 := by simp [bsum]

theorem bsum_add (p n : ℕ) : bsum f (p + n) = bsum f p + ∑ s ∈ range n, f (p + s) := by
  unfold bsum; rw [sum_range_add]

theorem wgt_split (p n s : ℕ) : wgt f i n s = Real.exp (top f i p - top f i n) * wgt f i p s := by
  unfold wgt; rw [← Real.exp_add]; congr 1; ring

theorem state_zero : state f i u 0 = 0 := by simp [state]

/-- Over `n` more positions what was there is scaled and the new positions are added. -/
theorem state_add (p n : ℕ) : state f i u (p + n) =
    Real.exp (top f i p - top f i (p + n)) * state f i u p + ∑ s ∈ range n, wgt f i (p + n) (p + s) * u (p + s) := by
  unfold state
  rw [sum_range_add, mul_sum]
  congr 1
  refine sum_congr rfl fun s _ => ?_
  rw [wgt_split f i p (p + n) s]; ring

/-- What is accumulated is linear in what comes in. -/
theorem state_lin {K : Type} [Fintype K] (w : K → ℕ → ℝ) (c : K → ℝ) (n : ℕ) :
    ∑ d, state f i (w d) n * c d = state f i (fun s => ∑ d, w d s * c d) n := by
  unfold state
  simp only [sum_mul, mul_sum]
  rw [sum_comm]
  refine sum_congr rfl fun s _ => sum_congr rfl fun d _ => by ring

theorem state_congr {u v : ℕ → ℝ} (huv : ∀ s, u s = v s) (n : ℕ) : state f i u n = state f i v n := by
  rw [funext huv]

theorem coe_max (a b : ℝ) : ((max a b : ℝ) : EReal) = max (a : EReal) (b : EReal) :=
  EReal.coe_strictMono.monotone.map_max

/-- The running maximum of shifted values, started from a shifted `top`. -/
theorem max_sup_range (c : ℝ) (p n : ℕ) :
    max (((c + top f i p : ℝ) : EReal)) ((range n).sup fun s => ((adj f i (p + s) + c : ℝ) : EReal)) =
      ((c + top f i (p + n) : ℝ) : EReal) := by
  induction n with
  | zero => simp
  | succ n ih =>
    rw [range_add_one, sup_insert]
    refine (max_left_comm _ _ _).trans ?_
    rw [ih, ← coe_max, ← add_assoc]
    congr 1
    rw [show top f i (p + n + 1) = max (top f i (p + n)) (adj f i (p + n)) from rfl, add_comm (adj f i (p + n)) c,
      max_add_add_left, max_comm]

/-- A sum of real numbers among the extended ones. -/
theorem coe_sum {K : Type} (S : Finset K) (w : K → ℝ) : ∑ s ∈ S, ((w s : ℝ) : EReal) = ((∑ s ∈ S, w s : ℝ) : EReal) := by
  classical
  induction S using Finset.induction_on with
  | empty => simp
  | insert a S ha ih => rw [sum_insert ha, sum_insert ha, ih, EReal.coe_add]

/-- A sum over positions of which only the first `n` count. -/
theorem sum_fin_ite (N n : ℕ) (hn : n ≤ N) (w : ℕ → ℝ) :
    ∑ s : Fin N, (if s.val < n then w s.val else 0) = ∑ s ∈ range n, w s := by
  rw [Fin.sum_univ_eq_sum_range (fun s => if s < n then w s else 0) N, ← sum_filter]
  refine sum_congr ?_ fun _ _ => rfl
  ext s; simp only [mem_filter, mem_range]; omega

/-! ## What a head makes of a position -/

/-- The values with a one below them. -/
def vx (vv : ℕ → Fin 128 → ℝ) (s : ℕ) (e : Fin 144) : ℝ :=
  if h : e.val < 128 then vv s ⟨e.val, h⟩ else if e.val = 128 then 1 else 0

/-- The numerator (entries 0 to 127) and the normalizer (entry 128) at position `t`. -/
def nd (vv : ℕ → Fin 128 → ℝ) (kk qq : ℕ → Fin 64 → ℝ) (t : ℕ) (e : Fin 144) : ℝ :=
  state f i (fun s => vx vv s e * ∑ d, kk s d * qq t d) (t + 1)

/-- What the numerator is divided by. -/
def den (vv : ℕ → Fin 128 → ℝ) (kk qq : ℕ → Fin 64 → ℝ) (t : ℕ) : ℝ :=
  max |nd f i vv kk qq t 128| (Real.exp (-(bsum f (t + 1) + top f i (t + 1))))

theorem den_pos (vv : ℕ → Fin 128 → ℝ) (kk qq : ℕ → Fin 64 → ℝ) (t : ℕ) : 0 < den f i vv kk qq t :=
  lt_max_of_lt_right (Real.exp_pos _)

/-- The head's output under the output gate. -/
def gh (vv oo : ℕ → Fin 128 → ℝ) (kk qq : ℕ → Fin 64 → ℝ) (t : ℕ) (e : Fin 128) : ℝ :=
  oo t e * nd f i vv kk qq t ⟨e.val, by omega⟩ * (1 / den f i vv kk qq t)

end Cert.Model

end
-- ==== Proof.Gates.lean ====
module

public import proofs.«01_k».proof.Proof.Step
public import proofs.«01_k».proof.Proof.Reads
public import proofs.«01_k».proof.Proof.Model
public import Idealize.ShloMosaic.Lib.Pointwise

@[expose] public section

set_option maxRecDepth 16384

noncomputable section

namespace Cert.KernelIdeal.Body

open Cert.KernelIdeal.Gen Cert.Model
open Idealize.ShloMosaic Idealize.ShloMosaic.TcCoe Idealize.ShloMosaic.Tactic
open scoped BigOperators

/-- A head's row of the gates. -/
def hr (h : Fin 4) : Fin 8 := ⟨4 + h.val, by omega⟩
/-- The row of a head's input gates as they are loaded. -/
def hr0 (h : Fin 4) : Fin 8 := ⟨h.val, by omega⟩

/-! ## Numbers -/

theorem lit_bot : Ideal.ofBits FTy.f32 0xFF800000#32 = ⊥ := by simp [Ideal.ofBits, Ideal.ieee]
theorem lit_one : Ideal.ofBits FTy.f32 0x3F800000#32 = ((1 : ℝ) : EReal) := by
  simp [Ideal.ofBits, Ideal.ieee]; rw [← EReal.coe_mul]; norm_num
theorem lit_128 : Ideal.ofBits FTy.f32 0x43000000#32 = ((128 : ℝ) : EReal) := by
  simp [Ideal.ofBits, Ideal.ieee]; rw [← EReal.coe_mul]; norm_num

/-- A small number's comparison, as a number. -/
theorem flag_le (a b : ℕ) (ha : a < 256) (hb : b < 256) :
    IntOp.cmpi CmpIPredicate.sle (BitVec.ofNat 32 a) (BitVec.ofNat 32 b) = BitVec.ofBool (decide (a ≤ b)) :=
  WordCmp.cmpi_sle_ofNat (by omega) (by omega)
theorem flag_ge (a b : ℕ) (ha : a < 256) (hb : b < 256) :
    IntOp.cmpi CmpIPredicate.sge (BitVec.ofNat 32 a) (BitVec.ofNat 32 b) = BitVec.ofBool (decide (b ≤ a)) :=
  WordCmp.cmpi_sge_ofNat (by omega) (by omega)

theorem flag_num (p : Prop) [Decidable p] :
    (FloatOps.sitofp FTy.f32 (BitVec.setWidth 32 (BitVec.ofBool (decide p))) : Ideal FTy.f32) = if p then (1 : EReal) else 0 := by
  have h0 : ((0#32).toInt) = 0 := by decide
  have h1 : ((1#32).toInt) = 1 := by decide
  by_cases h : p
  · simp [h, FloatOps.sitofp, h1]
  · simp [h, FloatOps.sitofp, h0]

theorem flag_select {α : Type} (p : Prop) [Decidable p] (a b : α) :
    Scalar.select (BitVec.ofBool (decide p)) a b = if p then a else b := by
  by_cases h : p <;> simp [h, Scalar.select]

/-! ## The gates at a position -/

section Plain
variable (g : FVec Ideal S8x256 .f32) (r : Fin 8) (l : Fin 256)

theorem csum_apply : csum g (ix2 r l) = ∑ x : Fin 256, g (ix2 r x) * (if x.val ≤ l.val then (1 : EReal) else 0) := by
  pointwise [csum, k0_pay19, k0_pay18]
  refine Finset.sum_congr rfl fun x _ => ?_
  rw [flag_le _ _ x.isLt l.isLt, flag_num]

theorem agate_apply (h : Fin 4) : agate g (ix2 (hr h) l) = g (ix2 (hr0 h) l) - csum g (ix2 (hr h) l) := by
  pointwise [agate]
  congr 3
  apply Fin.ext; simp only [hr, hr0]; omega

theorem pstage_apply (n : ℕ) (hn : n < 256) : pstage (BitVec.ofNat 32 n) g (ix2 r l) =
    max (g (ix2 r l)) (if h : n ≤ l.val then g (ix2 r ⟨l.val - n, by omega⟩) else ⊥) := by
  pointwise [pstage]
  rw [flag_ge _ _ l.isLt hn, flag_select, lit_bot]
  congr 1
  split
  · congr 2
    apply Fin.ext
    have : (BitVec.ofNat 32 n).toNat = n := by simp; omega
    simp only [this]; omega
  · rfl

/-- One doubling of the window the running maximum has looked at. -/
theorem pstage_win (n : ℕ) (hn : n < 256) (u : ℕ → EReal)
    (hg : ∀ l : Fin 256, g (ix2 r l) = (Finset.Icc (l.val + 1 - n) l.val).sup u) (l : Fin 256) :
    pstage (BitVec.ofNat 32 n) g (ix2 r l) = (Finset.Icc (l.val + 1 - 2 * n) l.val).sup u := by
  rw [pstage_apply g r l n hn, hg l]
  split
  · rename_i h
    rw [hg, show max ((Finset.Icc (l.val + 1 - n) l.val).sup u) ((Finset.Icc ((⟨l.val - n, by omega⟩ : Fin 256).val + 1 - n) (⟨l.val - n, by omega⟩ : Fin 256).val).sup u)
      = (Finset.Icc (l.val + 1 - n) l.val ∪ Finset.Icc (l.val - n + 1 - n) (l.val - n)).sup u from Finset.sup_union.symm]
    congr 1
    ext s; simp only [Finset.mem_union, Finset.mem_Icc]; omega
  · rename_i h
    rw [max_eq_left bot_le]
    congr 2
    omega

/-- The running maximum. -/
theorem pmax_apply (u : ℕ → EReal) (hg : ∀ l : Fin 256, g (ix2 r l) = u l.val) (l : Fin 256) :
    pmax g (ix2 r l) = (Finset.range (l.val + 1)).sup u := by
  have h1 : ∀ l : Fin 256, g (ix2 r l) = (Finset.Icc (l.val + 1 - 1) l.val).sup u := fun l => by
    rw [Nat.add_sub_cancel, Finset.Icc_self, Finset.sup_singleton, hg]
  have h := pstage_win _ r 128 (by omega) u (pstage_win _ r 64 (by omega) u (pstage_win _ r 32 (by omega) u
    (pstage_win _ r 16 (by omega) u (pstage_win _ r 8 (by omega) u (pstage_win _ r 4 (by omega) u
    (pstage_win _ r 2 (by omega) u (pstage_win _ r 1 (by omega) u h1))))))) l
  unfold pmax
  rw [h]
  congr 1
  ext s; simp only [Finset.mem_Icc, Finset.mem_range]; have := l.isLt; omega
end Plain

/-! ## The gates of a head's chunk, from position `p` of its sequence -/

/-- The chunk's gates and carried stabilizer are those of a head's sequence from position `p` on. -/
structure Gates (mr g : FVec Ideal S8x256 .f32) (h : Fin 4) (f i : ℕ → ℝ) (p : ℕ) : Prop where
  lf : ∀ l : Fin 256, g (ix2 (hr h) l) = ((f (p + l.val) : ℝ) : EReal)
  ig : ∀ l : Fin 256, g (ix2 (hr0 h) l) = ((i (p + l.val) : ℝ) : EReal)
  mr : ∀ l : Fin 256, mr (ix2 (hr h) l) = ((bsum f p + top f i p : ℝ) : EReal)

namespace Gates
variable {mr g : FVec Ideal S8x256 .f32} {h : Fin 4} {f i : ℕ → ℝ} {p : ℕ} (G : Gates mr g h f i p) (l : Fin 256)
include G

theorem csum_at : csum g (ix2 (hr h) l) = ((bsum f (p + l.val + 1) - bsum f p : ℝ) : EReal) := by
  rw [csum_apply, show p + l.val + 1 = p + (l.val + 1) by omega, bsum_add, add_sub_cancel_left,
    ← sum_fin_ite 256 (l.val + 1) (by omega) (fun s => f (p + s)), ← coe_sum]
  refine Finset.sum_congr rfl fun x _ => ?_
  rw [G.lf]
  by_cases hx : x.val ≤ l.val
  · rw [if_pos hx, if_pos (by omega), mul_one]
  · rw [if_neg hx, if_neg (by omega), mul_zero]; rfl

theorem agate_at : agate g (ix2 (hr h) l) = ((adj f i (p + l.val) + bsum f p : ℝ) : EReal) := by
  rw [agate_apply, G.csum_at, G.ig, ← EReal.coe_sub]
  congr 1; unfold adj; ring

theorem bigm_at : bigm mr g (ix2 (hr h) l) = ((bsum f p + top f i (p + l.val + 1) : ℝ) : EReal) := by
  rw [show p + l.val + 1 = p + (l.val + 1) by omega, ← max_sup_range f i (bsum f p) p (l.val + 1), ← G.mr l,
    ← pmax_apply (agate g) (hr h) _ G.agate_at]
  rfl

theorem inter_at : inter mr g (ix2 (hr h) l) = ((Real.exp (top f i p - top f i (p + l.val + 1)) : ℝ) : EReal) := by
  have e : inter mr g (ix2 (hr h) l) = Ideal.exp (mr (ix2 (hr h) l) - bigm mr g (ix2 (hr h) l)) := by pointwise [inter]
  rw [e, G.mr, G.bigm_at, ← EReal.coe_sub, Ideal.exp_coe]
  congr 2; ring

theorem floorr_at : floorr mr g (ix2 (hr h) l) =
    ((Real.exp (-(bsum f (p + l.val + 1) + top f i (p + l.val + 1))) : ℝ) : EReal) := by
  have e : floorr mr g (ix2 (hr h) l) = Ideal.exp (0 - (csum g (ix2 (hr h) l) + bigm mr g (ix2 (hr h) l))) := by
    pointwise [floorr]
  rw [e, G.csum_at, G.bigm_at, ← EReal.coe_add, ← EReal.coe_zero, ← EReal.coe_sub, Ideal.exp_coe]
  congr 2; ring

theorem mend_at : mend mr g (ix2 (hr h) 0) = ((bsum f p + top f i (p + 256) : ℝ) : EReal) := by
  have e : mend mr g (ix2 (hr h) 0) = bigm mr g (ix2 (hr h) 255) := by pointwise [mend]
  rw [e, G.bigm_at]; rfl

theorem decay_at : decay mr g (ix2 (hr h) 0) = ((Real.exp (top f i p - top f i (p + 256)) : ℝ) : EReal) := by
  have e : decay mr g (ix2 (hr h) 0) = Ideal.exp (mr (ix2 (hr h) 0) - mend mr g (ix2 (hr h) 0)) := by pointwise [decay]
  rw [e, G.mr, G.mend_at, ← EReal.coe_sub, Ideal.exp_coe]
  congr 2; ring

theorem mnext_at : mnext mr g (ix2 (hr h) l) = ((bsum f (p + 256) + top f i (p + 256) : ℝ) : EReal) := by
  have e : mnext mr g (ix2 (hr h) l) = csum g (ix2 (hr h) 255) + mend mr g (ix2 (hr h) 0) := by pointwise [mnext]
  rw [e, G.csum_at, G.mend_at, ← EReal.coe_add]
  congr 1
  show bsum f (p + 256) - _ + _ = _
  ring

/-- The head's column of adjusted gates. -/
theorem gcol_at : gcols mr g (ix2 l ⟨4 + h.val, by omega⟩) = ((adj f i (p + l.val) + bsum f p : ℝ) : EReal) := by
  rw [← G.agate_at]
  pointwise [gcols]
  rw [dif_pos (by omega)]; rfl

/-- The head's column of key weights. -/
theorem wcol_at : gcols mr g (ix2 l ⟨12 + h.val, by omega⟩) = ((wgt f i (p + 256) (p + l.val) : ℝ) : EReal) := by
  have e : gcols mr g (ix2 l ⟨12 + h.val, by omega⟩) = Ideal.exp (agate g (ix2 (hr h) l) - mend mr g (ix2 (hr h) 0)) := by
    have hi : (⟨12 + h.val - 8, by omega⟩ : Fin 8) = hr h := by apply Fin.ext; simp only [hr]; omega
    pointwise [gcols]
    rw [dif_neg (by omega), dif_pos (by omega)]
    rw [hi]
  rw [e, G.agate_at, G.mend_at, ← EReal.coe_sub, Ideal.exp_coe]
  unfold wgt; congr 2; ring
end Gates

end Cert.KernelIdeal.Body

end
-- ==== Proof.Head.lean ====
module

public import proofs.«01_k».proof.Proof.Gates

@[expose] public section

set_option maxRecDepth 16384

noncomputable section

namespace Cert.KernelIdeal.Body

open Cert.KernelIdeal.Gen Cert.Model
open Idealize.ShloMosaic Idealize.ShloMosaic.TcCoe Idealize.ShloMosaic.Tactic
open scoped BigOperators

/-! ## A head's chunk, read at an index -/

section Plain
variable (mr g : FVec Ideal S8x256 .f32) (h : Fin 4) (k : FVec Ideal S256x64 .bf16) (q : FVec Ideal S64x256 .bf16)
  (v : FVec Ideal S128x256 .bf16) (om gb : FVec Ideal S128x256 .f32) (cn : FVec Ideal S144x64 .f32)

theorem vext_apply (e : Fin 144) (s : Fin 256) : vext v (ix2 e s) =
    if he : e.val < 128 then v (ix2 ⟨e.val, he⟩ s) else if e.val = 128 then 1 else 0 := by
  pointwise [vext, k0_pay20]
  split
  · rfl
  · rename_i he
    rw [show IntOp.cmpi CmpIPredicate.eq (BitVec.ofNat 32 (e.val - 128)) 0#32 = BitVec.ofBool (decide (e.val - 128 = 0)) from
      WordCmp.cmpi_eq_ofNat (by omega) (by omega), flag_num]
    have : (e.val - 128 = 0) ↔ (e.val = 128) := by omega
    simp only [this]

theorem grow_apply (w : FVec Ideal S8x256 .f32) (l : Fin 256) : grow h w (ix2 0 l) = w (ix2 (hr h) l) := by
  pointwise [grow]
  rfl

theorem kq_apply (s l : Fin 256) : kq k q (ix2 s l) = ∑ d : Fin 64, k (ix2 s d) * q (ix2 d l) := by
  pointwise [kq]

theorem scores_apply (s l : Fin 256) : scores mr g h k q (ix2 s l) = kq k q (ix2 s l) *
    Ideal.exp (if s.val ≤ l.val then gcols mr g (ix2 s ⟨4 + h.val, by omega⟩) - bigm mr g (ix2 (hr h) l) else ⊥) := by
  pointwise [scores, k0_pay18]
  rw [flag_le _ _ s.isLt l.isLt, flag_select, lit_bot, grow_apply]

theorem wkeys_apply (s : Fin 256) (d : Fin 64) : wkeys mr g h k (ix2 s d) =
    k (ix2 s d) * gcols mr g (ix2 s ⟨12 + h.val, by omega⟩) := by
  pointwise [wkeys]

theorem numden_apply (e : Fin 144) (l : Fin 256) : numden mr g h k q v cn (ix2 e l) =
    inter mr g (ix2 (hr h) l) * (∑ d : Fin 64, cn (ix2 e d) * q (ix2 d l)) +
      ∑ s : Fin 256, vext v (ix2 e s) * scores mr g h k q (ix2 s l) := by
  pointwise [numden]
  rw [grow_apply]

theorem cnext_apply (e : Fin 144) (d : Fin 64) : cnext mr g h k v cn (ix2 e d) =
    decay mr g (ix2 (hr h) 0) * cn (ix2 e d) + ∑ s : Fin 256, vext v (ix2 e s) * wkeys mr g h k (ix2 s d) := by
  pointwise [cnext]
  rfl

theorem recip_apply (l : Fin 256) : recip mr g h k q v cn (ix2 0 l) =
    Ideal.div 1 (max (max (numden mr g h k q v cn (ix2 128 l)) (-numden mr g h k q v cn (ix2 128 l)))
      (floorr mr g (ix2 (hr h) l))) := by
  pointwise [recip]
  rw [grow_apply, Ideal.absf_def]

theorem gated_apply (e : Fin 128) (l : Fin 256) : gated mr g h k q v om cn (ix2 e l) =
    om (ix2 e l) * numden mr g h k q v cn (ix2 ⟨e.val, by omega⟩ l) := by
  pointwise [gated]

theorem nscale_apply (r : FVec Ideal S1x256 .f32) (t : FVec Ideal S128x256 .f32) (l : Fin 256) : nscale r t (ix2 0 l) =
    r (ix2 0 l) * Ideal.rsqrt (r (ix2 0 l) * r (ix2 0 l) * Ideal.div (∑ e : Fin 128, t (ix2 e l) * t (ix2 e l))
      (Ideal.ofBits FTy.f32 0x43000000#32) + Ideal.ofBits FTy.f32 0x358637BD#32) := by
  pointwise [nscale]

theorem mixed_apply (e : Fin 128) (l : Fin 256) : mixed mr g h k q v om gb cn (ix2 e l) =
    gated mr g h k q v om cn (ix2 e l) * nscale (recip mr g h k q v cn) (gated mr g h k q v om cn) (ix2 0 l) * gb (ix2 e l) := by
  pointwise [mixed]
end Plain

/-- What a head is given over a chunk from position `p` of its sequence, and the state carried to it. -/
structure Head (mr g : FVec Ideal S8x256 .f32) (h : Fin 4) (k : FVec Ideal S256x64 .bf16)
    (v : FVec Ideal S128x256 .bf16) (cn : FVec Ideal S144x64 .f32)
    (f i : ℕ → ℝ) (kk : ℕ → Fin 64 → ℝ) (vv : ℕ → Fin 128 → ℝ) (p : ℕ) : Prop extends Gates mr g h f i p where
  k : ∀ (l : Fin 256) (d : Fin 64), k (ix2 l d) = ((kk (p + l.val) d : ℝ) : EReal)
  v : ∀ (e : Fin 128) (l : Fin 256), v (ix2 e l) = ((vv (p + l.val) e : ℝ) : EReal)
  cn : ∀ (e : Fin 144) (d : Fin 64), cn (ix2 e d) = ((state f i (fun s => vx vv s e * kk s d) p : ℝ) : EReal)

/-- A head's output over the root of its mean square. -/
def mixv (f i : ℕ → ℝ) (vv oo : ℕ → Fin 128 → ℝ) (kk qq : ℕ → Fin 64 → ℝ) (t : ℕ) (e : Fin 128) : EReal :=
  ((gh f i vv oo kk qq t e : ℝ) : EReal) *
    Ideal.rsqrt (Ideal.div (∑ e : Fin 128, ((gh f i vv oo kk qq t e : ℝ) : EReal) * ((gh f i vv oo kk qq t e : ℝ) : EReal))
      (Ideal.ofBits FTy.f32 0x43000000#32) + Ideal.ofBits FTy.f32 0x358637BD#32)

namespace Head
variable {mr g : FVec Ideal S8x256 .f32} {h : Fin 4} {k : FVec Ideal S256x64 .bf16} {q : FVec Ideal S64x256 .bf16}
  {v : FVec Ideal S128x256 .bf16} {om gb : FVec Ideal S128x256 .f32} {cn : FVec Ideal S144x64 .f32}
  {f i : ℕ → ℝ} {kk qq : ℕ → Fin 64 → ℝ} {vv oo : ℕ → Fin 128 → ℝ} {p : ℕ} (H : Head mr g h k v cn f i kk vv p)
include H

theorem vext_at (e : Fin 144) (s : Fin 256) : vext v (ix2 e s) = ((vx vv (p + s.val) e : ℝ) : EReal) := by
  rw [vext_apply]
  unfold vx
  split
  · rw [H.v]
  · split <;> rfl

theorem wkeys_at (s : Fin 256) (d : Fin 64) : wkeys mr g h k (ix2 s d) =
    ((kk (p + s.val) d * wgt f i (p + 256) (p + s.val) : ℝ) : EReal) := by
  rw [wkeys_apply, H.k, H.wcol_at, ← EReal.coe_mul]

/-- The state carried on. -/
theorem cnext_at (e : Fin 144) (d : Fin 64) : cnext mr g h k v cn (ix2 e d) =
    ((state f i (fun s => vx vv s e * kk s d) (p + 256) : ℝ) : EReal) := by
  rw [cnext_apply, H.decay_at, H.cn, state_add, ← EReal.coe_mul, EReal.coe_add,
    ← Fin.sum_univ_eq_sum_range (fun s => wgt f i (p + 256) (p + s) * (vx vv (p + s) e * kk (p + s) d)) 256, ← coe_sum]
  congr 1
  refine Finset.sum_congr rfl fun s _ => ?_
  rw [H.vext_at, H.wkeys_at, ← EReal.coe_mul]
  congr 1; ring

section Query
variable (hq : ∀ (d : Fin 64) (l : Fin 256), q (ix2 d l) = ((qq (p + l.val) d : ℝ) : EReal))
include hq

theorem kq_at (s l : Fin 256) : kq k q (ix2 s l) = ((∑ d, kk (p + s.val) d * qq (p + l.val) d : ℝ) : EReal) := by
  rw [kq_apply, ← coe_sum]
  refine Finset.sum_congr rfl fun d _ => ?_
  rw [H.k, hq, ← EReal.coe_mul]

theorem scores_at (s l : Fin 256) : scores mr g h k q (ix2 s l) =
    ((if s.val < l.val + 1 then wgt f i (p + (l.val + 1)) (p + s.val) * ∑ d, kk (p + s.val) d * qq (p + l.val) d else 0 : ℝ) : EReal) := by
  rw [scores_apply, H.kq_at hq]
  by_cases hs : s.val ≤ l.val
  · rw [if_pos hs, if_pos (by omega), H.gcol_at, H.bigm_at, ← EReal.coe_sub, Ideal.exp_coe, ← EReal.coe_mul, mul_comm]
    congr 2
    unfold wgt; congr 1
    rw [← add_assoc]; ring
  · rw [if_neg hs, if_neg (by omega)]
    show _ * (0 : EReal) = _
    rw [mul_zero]; rfl

/-- The numerator and the normalizer. -/
theorem numden_at (e : Fin 144) (l : Fin 256) : numden mr g h k q v cn (ix2 e l) =
    ((nd f i vv kk qq (p + l.val) e : ℝ) : EReal) := by
  rw [numden_apply, H.inter_at]
  have h1 : ∑ d : Fin 64, cn (ix2 e d) * q (ix2 d l) =
      ((state f i (fun s => vx vv s e * ∑ d, kk s d * qq (p + l.val) d) p : ℝ) : EReal) := by
    rw [state_congr f i (v := fun s => ∑ d, (vx vv s e * kk s d) * qq (p + l.val) d)
      (fun s => by rw [Finset.mul_sum]; exact Finset.sum_congr rfl fun d _ => (mul_assoc _ _ _).symm),
      ← state_lin f i (fun d s => vx vv s e * kk s d) (fun d => qq (p + l.val) d), ← coe_sum]
    refine Finset.sum_congr rfl fun d _ => ?_
    rw [H.cn, hq, ← EReal.coe_mul]
  have h2 : ∑ s : Fin 256, vext v (ix2 e s) * scores mr g h k q (ix2 s l) =
      ((∑ s ∈ Finset.range (l.val + 1), wgt f i (p + (l.val + 1)) (p + s) *
        (vx vv (p + s) e * ∑ d, kk (p + s) d * qq (p + l.val) d) : ℝ) : EReal) := by
    rw [← sum_fin_ite 256 (l.val + 1) (by omega), ← coe_sum]
    refine Finset.sum_congr rfl fun s _ => ?_
    rw [H.vext_at, H.scores_at hq, ← EReal.coe_mul]
    congr 1
    split
    · ring
    · rw [mul_zero]
  rw [h1, h2, ← EReal.coe_mul, ← EReal.coe_add, show p + l.val + 1 = p + (l.val + 1) by omega, ← state_add]
  rfl

theorem recip_at (l : Fin 256) : recip mr g h k q v cn (ix2 0 l) = ((1 / den f i vv kk qq (p + l.val) : ℝ) : EReal) := by
  rw [recip_apply, H.numden_at hq, H.floorr_at, ← EReal.coe_neg, ← coe_max, ← coe_max]
  have hd := den_pos f i vv kk qq (p + l.val)
  rw [show max (max (nd f i vv kk qq (p + l.val) 128) (-nd f i vv kk qq (p + l.val) 128))
    (Real.exp (-(bsum f (p + l.val + 1) + top f i (p + l.val + 1)))) = den f i vv kk qq (p + l.val) from rfl,
    Ideal.div_coe hd.ne', one_mul]

variable (ho : ∀ (e : Fin 128) (l : Fin 256), om (ix2 e l) = ((oo (p + l.val) e : ℝ) : EReal))
include ho

theorem gated_at (e : Fin 128) (l : Fin 256) : gated mr g h k q v om cn (ix2 e l) =
    ((oo (p + l.val) e * nd f i vv kk qq (p + l.val) ⟨e.val, by omega⟩ : ℝ) : EReal) := by
  rw [gated_apply, ho, H.numden_at hq, ← EReal.coe_mul]

/-- The mixed rows: the head's output under the output gate, over the root of its mean square, times the gain. -/
theorem mixed_at (e : Fin 128) (l : Fin 256) : mixed mr g h k q v om gb cn (ix2 e l) =
    mixv f i vv oo kk qq (p + l.val) e * gb (ix2 e l) := by
  unfold mixv
  rw [mixed_apply, nscale_apply, H.gated_at hq ho, H.recip_at hq, ← mul_assoc, ← EReal.coe_mul]
  congr 3
  congr 1
  simp only [H.gated_at hq ho, ← EReal.coe_mul, coe_sum]
  rw [lit_128, Ideal.div_coe (by norm_num), Ideal.div_coe (by norm_num), ← EReal.coe_mul, ← EReal.coe_mul, ← EReal.coe_mul]
  congr 1
  rw [Finset.sum_mul, Finset.sum_mul, Finset.mul_sum]
  refine Finset.sum_congr rfl fun e _ => ?_
  unfold gh; ring
end Query
end Head

end Cert.KernelIdeal.Body

end
-- ==== Proof.Tile.lean ====
module

public import proofs.«01_k».proof.Proof.Head

@[expose] public section

set_option maxRecDepth 16384

noncomputable section

namespace Cert.KernelIdeal.Body

open Cert.KernelIdeal.Gen Cert.Model
open Idealize.ShloMosaic Idealize.ShloMosaic.TcCoe Idealize.ShloMosaic.Tactic
open scoped BigOperators

/-! ## The loads of a tile, read at an index -/

/-- A head's column of the keys, or row of the queries. -/
def hkey (h : Fin 4) (d : Fin 64) : Fin 256 := ⟨64 * h.val + d.val, by omega⟩

section Loads
variable (x2 : Vec Ideal S256x512 .bf16) (x3 : Vec Ideal S512x256 .bf16) (x4 : Vec Ideal S512x512 .bf16)
  (x5 : Vec Ideal S512x512 .f32) (x6 : Vec Ideal S8x512 .f32) (x7 : Vec Ideal S512x256 .f32)
  (xs1 : Vec Ideal S4x144x64 .f32) (xs2 : Vec Ideal S8x256 .f32) (j : Fin 2) (h : Fin 4)

theorem ldG_apply (r : Fin 8) (l : Fin 256) : ldG x6 j (ix2 r l) = x6 (ix2 r (jpos j l)) := by
  pointwise [ldG, jpos]
theorem ldK_apply (l : Fin 256) (d : Fin 64) : ldK h x3 j (ix2 l d) = x3 (ix2 (jpos j l) (hkey h d)) := by
  pointwise [ldK, jpos, hkey]
theorem ldQ_apply (d : Fin 64) (l : Fin 256) : ldQ h x2 j (ix2 d l) = x2 (ix2 (hkey h d) (jpos j l)) := by
  pointwise [ldQ, jpos, hkey]
theorem ldV_apply (e : Fin 128) (l : Fin 256) : ldV h x4 j (ix2 e l) = x4 (ix2 (hrow h e) (jpos j l)) := by
  pointwise [ldV, jpos, hrow]
theorem ldO_apply (e : Fin 128) (l : Fin 256) : ldO h x5 j (ix2 e l) = x5 (ix2 (hrow h e) (jpos j l)) := by
  pointwise [ldO, jpos, hrow]
theorem ldN_apply (e : Fin 128) (l : Fin 256) : ldN h x7 (ix2 e l) = x7 (ix2 (hrow h e) l) := by
  pointwise [ldN, hrow]
theorem ldC_apply (e : Fin 144) (d : Fin 64) : ldC h xs1 (ix2 e d) = xs1 (ix3 h e d) := by
  refine (dropUnit_at _ _ e d).trans ?_
  pointwise
theorem ldM_apply (r : Fin 8) (l : Fin 256) : ldM xs2 (ix2 r l) = xs2 (ix2 r l) := by
  pointwise [ldM]
end Loads

/-- What a head is given over a tile from position `p` of its sequence, and what is carried to it. -/
structure Tile (x3 : Vec Ideal S512x256 .bf16) (x4 : Vec Ideal S512x512 .bf16) (x6 : Vec Ideal S8x512 .f32)
    (xs1 : Vec Ideal S4x144x64 .f32) (xs2 : Vec Ideal S8x256 .f32) (h : Fin 4)
    (f i : ℕ → ℝ) (kk : ℕ → Fin 64 → ℝ) (vv : ℕ → Fin 128 → ℝ) (p : ℕ) : Prop where
  lf : ∀ l : Fin 512, x6 (ix2 (hr h) l) = ((f (p + l.val) : ℝ) : EReal)
  ig : ∀ l : Fin 512, x6 (ix2 (hr0 h) l) = ((i (p + l.val) : ℝ) : EReal)
  k : ∀ (l : Fin 512) (d : Fin 64), x3 (ix2 l (hkey h d)) = ((kk (p + l.val) d : ℝ) : EReal)
  v : ∀ (e : Fin 128) (l : Fin 512), x4 (ix2 (hrow h e) l) = ((vv (p + l.val) e : ℝ) : EReal)
  mr : ∀ l : Fin 256, xs2 (ix2 (hr h) l) = ((bsum f p + top f i p : ℝ) : EReal)
  cn : ∀ (e : Fin 144) (d : Fin 64), xs1 (ix3 h e d) = ((state f i (fun s => vx vv s e * kk s d) p : ℝ) : EReal)

namespace Tile
variable {x2 : Vec Ideal S256x512 .bf16} {x3 : Vec Ideal S512x256 .bf16} {x4 : Vec Ideal S512x512 .bf16}
  {x5 : Vec Ideal S512x512 .f32} {x6 : Vec Ideal S8x512 .f32} {x7 : Vec Ideal S512x256 .f32}
  {xs1 : Vec Ideal S4x144x64 .f32} {xs2 : Vec Ideal S8x256 .f32} {h : Fin 4}
  {f i : ℕ → ℝ} {kk qq : ℕ → Fin 64 → ℝ} {vv oo : ℕ → Fin 128 → ℝ} {p : ℕ} (T : Tile x3 x4 x6 xs1 xs2 h f i kk vv p)
include T

theorem head0 : Head (mrAt x6 xs2 0) (ldG x6 0) h (ldK h x3 0) (ldV h x4 0) (cnAt h x3 x4 x6 xs1 xs2 0) f i kk vv p where
  lf l := by rw [ldG_apply, T.lf]; congr 3; simp [jpos]
  ig l := by rw [ldG_apply, T.ig]; congr 3; simp [jpos]
  mr l := by rw [show mrAt x6 xs2 0 = ldM xs2 from rfl, ldM_apply, T.mr]
  k l d := by rw [ldK_apply, T.k]; congr 3; simp [jpos]
  v e l := by rw [ldV_apply, T.v]; congr 3; simp [jpos]
  cn e d := by rw [show cnAt h x3 x4 x6 xs1 xs2 0 = ldC h xs1 from rfl, ldC_apply, T.cn]

theorem head1 : Head (mrAt x6 xs2 1) (ldG x6 1) h (ldK h x3 1) (ldV h x4 1) (cnAt h x3 x4 x6 xs1 xs2 1) f i kk vv (p + 256) where
  lf l := by rw [ldG_apply, T.lf]; congr 2; simp [jpos]; omega
  ig l := by rw [ldG_apply, T.ig]; congr 2; simp [jpos]; omega
  mr l := T.head0.mnext_at l
  k l d := by rw [ldK_apply, T.k]; congr 2; simp [jpos]; omega
  v e l := by rw [ldV_apply, T.v]; congr 2; simp [jpos]; omega
  cn e d := T.head0.cnext_at e d

/-- What is carried on from the tile. -/
theorem mr_out (l : Fin 256) : mrAt x6 xs2 2 (ix2 (hr h) l) = ((bsum f (p + 512) + top f i (p + 512) : ℝ) : EReal) :=
  T.head1.mnext_at l
theorem cn_out (e : Fin 144) (d : Fin 64) : cnAt h x3 x4 x6 xs1 xs2 2 (ix2 e d) =
    ((state f i (fun s => vx vv s e * kk s d) (p + 512) : ℝ) : EReal) :=
  T.head1.cnext_at e d

/-- The tile's mixed rows. -/
theorem mix_out (hq : ∀ (d : Fin 64) (l : Fin 512), x2 (ix2 (hkey h d) l) = ((qq (p + l.val) d : ℝ) : EReal))
    (ho : ∀ (e : Fin 128) (l : Fin 512), x5 (ix2 (hrow h e) l) = ((oo (p + l.val) e : ℝ) : EReal))
    (j : Fin 2) (e : Fin 128) (l : Fin 256) : mixAt h x2 x3 x4 x5 x6 x7 xs1 xs2 j (ix2 e l) =
      mixv f i vv oo kk qq (p + (jpos j l).val) e * x7 (ix2 (hrow h e) l) := by
  have h0 : ∀ l : Fin 256, (jpos 0 l).val = l.val := fun l => by simp [jpos]
  have h1 : ∀ l : Fin 256, (jpos 1 l).val = 256 + l.val := fun l => by simp [jpos]
  rw [← ldN_apply x7 h e l]
  match j with
  | 0 =>
    rw [h0]
    exact T.head0.mixed_at (fun d l => by rw [ldQ_apply, hq, h0]) (fun e l => by rw [ldO_apply, ho, h0]) e l
  | 1 =>
    rw [h1, ← add_assoc]
    exact T.head1.mixed_at (fun d l => by rw [ldQ_apply, hq, h1, add_assoc]) (fun e l => by rw [ldO_apply, ho, h1, add_assoc]) e l

end Tile

end Cert.KernelIdeal.Body

end
-- ==== Proof.Blocks.lean ====
module

public import proofs.«01_k».proof.Proof.Track
public import proofs.«01_k».proof.Proof.Gates
public import Idealize.ShloMosaic.Lib.StableHlo.ReadAt
public import Idealize.ShloMosaic.Lib.Pipeline.ValueKit.Point

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The arrays the region is entered with -/

/-- A position's sequence. -/
def sq (n : Fin 32768) : Fin 16 := ⟨n.val / 2048, by omega⟩
/-- A position's place in its sequence. -/
def pl (n : Fin 32768) : Fin 2048 := ⟨n.val % 2048, by omega⟩

variable (n : Fin 32768)

theorem V_x (w : Fin 1024) : V m c main_v7 (ix2 n w) = m ((c : Thread nD τ).loc main_arg0) (ix3 (sq n) (pl n) w) := by
  unfold V
  after_reads_at
  rfl

theorem V_a (w : Fin 512) : V m c main_v10 (ix2 w n) = m ((c : Thread nD τ).loc main_arg1) (ix3 (sq n) (pl n) w) := by
  unfold V
  after_reads_at
  rfl

theorem V_q (r : Fin 256) : V m c main_v13 (ix2 r n) =
    m ((c : Thread nD τ).loc main_arg2) (ix4 (sq n) (pl n) ⟨r.val / 64, by omega⟩ ⟨r.val % 64, by omega⟩) := by
  unfold V
  after_reads_at
  rfl

theorem V_k (r : Fin 256) : V m c main_v15 (ix2 n r) =
    m ((c : Thread nD τ).loc main_arg3) (ix4 (sq n) (pl n) ⟨r.val / 64, by omega⟩ ⟨r.val % 64, by omega⟩) := by
  unfold V
  after_reads_at
  rfl

theorem V_v (r : Fin 512) : V m c main_v18 (ix2 r n) =
    m ((c : Thread nD τ).loc main_arg4) (ix4 (sq n) (pl n) ⟨r.val / 128, by omega⟩ ⟨r.val % 128, by omega⟩) := by
  unfold V
  after_reads_at
  rfl

theorem V_o (r : Fin 512) : V m c main_v20 (ix2 r n) =
    m ((c : Thread nD τ).loc main_arg5) (ix4 (sq n) (pl n) ⟨r.val / 128, by omega⟩ ⟨r.val % 128, by omega⟩) := by
  unfold V
  after_reads_at
  rfl

theorem V_i (h : Fin 4) : V m c main_v4 (ix2 (hr0 h) n) = m ((c : Thread nD τ).loc main_arg6) (ix3 (sq n) (pl n) h) := by
  unfold V hr0
  after_reads_at
  rfl

theorem V_f (h : Fin 4) : V m c main_v4 (ix2 (hr h) n) = m ((c : Thread nD τ).loc main_arg7) (ix3 (sq n) (pl n) h) := by
  unfold V hr
  after_reads_at
  rfl

theorem V_gain (r : Fin 512) (l : Fin 256) : V m c main_v6 (ix2 r l) = m ((c : Thread nD τ).loc main_arg8) (ix1 r) := by
  unfold V
  after_reads_at

theorem V_woa (r : Fin 512) (w : Fin 1024) : V m c main_v22 (ix2 r w) =
    m ((c : Thread nD τ).loc main_arg9) (ix2 ⟨r.val, by omega⟩ w) := by
  unfold V
  after_reads_at

theorem V_wom (r : Fin 512) (w : Fin 1024) : V m c main_v24 (ix2 r w) =
    m ((c : Thread nD τ).loc main_arg9) (ix2 ⟨512 + r.val, by omega⟩ w) := by
  unfold V
  after_reads_at

theorem V_g1 (w : Fin 1024) : V m c main_v25 (ix2 0 w) = m ((c : Thread nD τ).loc main_arg10) (ix1 w) := by
  unfold V
  after_reads_at

theorem V_up (a : Fin 1024) (w : Fin 4096) : V m c main_v26 (ix2 a w) = m ((c : Thread nD τ).loc main_arg11) (ix2 a w) := by
  unfold V
  after_reads_at

theorem V_dn (a : Fin 4096) (w : Fin 1024) : V m c main_v27 (ix2 a w) = m ((c : Thread nD τ).loc main_arg12) (ix2 a w) := by
  unfold V
  after_reads_at

theorem V_g2 (w : Fin 1024) : V m c main_v28 (ix2 0 w) = m ((c : Thread nD τ).loc main_arg13) (ix1 w) := by
  unfold V
  after_reads_at

/-! ## The windows' blocks -/

theorem idx0 : ∀ t : Fin cfg0.N, (cfg0.win 0).index t 0 = t.val - 1 ∧ (cfg0.win 0).index t 1 = 0 := by decide +kernel
theorem idx1 : ∀ t : Fin cfg0.N, (cfg0.win 1).index t 0 = 0 ∧ (cfg0.win 1).index t 1 = t.val - 1 := by decide +kernel
theorem idx2 : ∀ t : Fin cfg0.N, (cfg0.win 2).index t 0 = 0 ∧ (cfg0.win 2).index t 1 = min t.val 63 := by decide +kernel
theorem idx3 : ∀ t : Fin cfg0.N, (cfg0.win 3).index t 0 = min t.val 63 ∧ (cfg0.win 3).index t 1 = 0 := by decide +kernel
theorem idx4 : ∀ t : Fin cfg0.N, (cfg0.win 4).index t 0 = 0 ∧ (cfg0.win 4).index t 1 = min t.val 63 := by decide +kernel
theorem idx5 : ∀ t : Fin cfg0.N, (cfg0.win 5).index t 0 = 0 ∧ (cfg0.win 5).index t 1 = min t.val 63 := by decide +kernel
theorem idx6 : ∀ t : Fin cfg0.N, (cfg0.win 6).index t 0 = 0 ∧ (cfg0.win 6).index t 1 = min t.val 63 := by decide +kernel
theorem idx7 : ∀ t : Fin cfg0.N, (cfg0.win 7).index t 0 = 0 ∧ (cfg0.win 7).index t 1 = 0 := by decide +kernel
theorem idx8 : ∀ t : Fin cfg0.N, (cfg0.win 8).index t 0 = 0 ∧ (cfg0.win 8).index t 1 = 0 := by decide +kernel
theorem idx9 : ∀ t : Fin cfg0.N, (cfg0.win 9).index t 0 = 0 ∧ (cfg0.win 9).index t 1 = 0 := by decide +kernel
theorem idx10 : ∀ t : Fin cfg0.N, (cfg0.win 10).index t 0 = 0 ∧ (cfg0.win 10).index t 1 = 0 := by decide +kernel
theorem idx11 : ∀ t : Fin cfg0.N, (cfg0.win 11).index t 0 = 0 ∧ (cfg0.win 11).index t 1 = 0 := by decide +kernel
theorem idx12 : ∀ t : Fin cfg0.N, (cfg0.win 12).index t 0 = 0 ∧ (cfg0.win 12).index t 1 = 0 := by decide +kernel
theorem idx13 : ∀ t : Fin cfg0.N, (cfg0.win 13).index t 0 = 0 ∧ (cfg0.win 13).index t 1 = 0 := by decide +kernel

variable (t : Fin cfg0.N)

theorem lt_N : t.val < 65 := t.isLt

/-- A position of the tile point `t` works on. -/
def here (l : Fin 512) : Fin 32768 := ⟨512 * min t.val 63 + l.val, by omega⟩
/-- A position of the tile before it. -/
def prev (l : Fin 512) : Fin 32768 := ⟨512 * (t.val - 1) + l.val, by have := lt_N t; omega⟩

variable (l : Fin 512)

theorem blk_x (w : Fin 1024) : iblk m c 0 t (ix2 l w) = V m c main_v7 (ix2 (prev t l) w) := by
  unfold prev; blk_ext [iblk, V, idx0 t]
theorem blk_a (w : Fin 512) : iblk m c 1 t (ix2 w l) = V m c main_v10 (ix2 w (prev t l)) := by
  unfold prev; blk_ext [iblk, V, idx1 t]
theorem blk_q (r : Fin 256) : iblk m c 2 t (ix2 r l) = V m c main_v13 (ix2 r (here t l)) := by
  unfold here; blk_ext [iblk, V, idx2 t]
theorem blk_k (r : Fin 256) : iblk m c 3 t (ix2 l r) = V m c main_v15 (ix2 (here t l) r) := by
  unfold here; blk_ext [iblk, V, idx3 t]
theorem blk_v (r : Fin 512) : iblk m c 4 t (ix2 r l) = V m c main_v18 (ix2 r (here t l)) := by
  unfold here; blk_ext [iblk, V, idx4 t]
theorem blk_o (r : Fin 512) : iblk m c 5 t (ix2 r l) = V m c main_v20 (ix2 r (here t l)) := by
  unfold here; blk_ext [iblk, V, idx5 t]
theorem blk_g (r : Fin 8) : iblk m c 6 t (ix2 r l) = V m c main_v4 (ix2 r (here t l)) := by
  unfold here; blk_ext [iblk, V, idx6 t]
theorem blk_gain (r : Fin 512) (u : Fin 256) : iblk m c 7 t (ix2 r u) = V m c main_v6 (ix2 r u) := by
  blk_ext [iblk, V, idx7 t]
theorem blk_woa (r : Fin 512) (w : Fin 1024) : iblk m c 8 t (ix2 r w) = V m c main_v22 (ix2 r w) := by
  blk_ext [iblk, V, idx8 t]
theorem blk_wom (r : Fin 512) (w : Fin 1024) : iblk m c 9 t (ix2 r w) = V m c main_v24 (ix2 r w) := by
  blk_ext [iblk, V, idx9 t]
theorem blk_g1 (r : Fin 1) (w : Fin 1024) : iblk m c 10 t (ix2 r w) = V m c main_v25 (ix2 r w) := by
  blk_ext [iblk, V, idx10 t]
theorem blk_up (r : Fin 1024) (w : Fin 4096) : iblk m c 11 t (ix2 r w) = V m c main_v26 (ix2 r w) := by
  blk_ext [iblk, V, idx11 t]
theorem blk_dn (r : Fin 4096) (w : Fin 1024) : iblk m c 12 t (ix2 r w) = V m c main_v27 (ix2 r w) := by
  blk_ext [iblk, V, idx12 t]
theorem blk_g2 (r : Fin 1) (w : Fin 1024) : iblk m c 13 t (ix2 r w) = V m c main_v28 (ix2 r w) := by
  blk_ext [iblk, V, idx13 t]

end Cert.KernelIdeal.Body

end
-- ==== Proof.Walk.lean ====
module

public import proofs.«01_k».proof.Proof.Tile
public import proofs.«01_k».proof.Proof.Blocks

@[expose] public section

set_option maxRecDepth 16384

noncomputable section

namespace Cert.KernelIdeal.Body

open Cert.KernelIdeal Cert.KernelIdeal.Gen Cert.Model
open Idealize.ShloMosaic Idealize.ShloMosaic.TcCoe Idealize.ShloMosaic.Tactic

/-- The head arrays as real numbers, a sequence, a head and a position each. -/
structure Heads where
  f : ℕ → Fin 4 → ℕ → ℝ
  i : ℕ → Fin 4 → ℕ → ℝ
  q : ℕ → Fin 4 → ℕ → Fin 64 → ℝ
  k : ℕ → Fin 4 → ℕ → Fin 64 → ℝ
  v : ℕ → Fin 4 → ℕ → Fin 128 → ℝ
  o : ℕ → Fin 4 → ℕ → Fin 128 → ℝ

/-- The arrays hold those numbers. -/
structure Heads.Holds (R : Heads) (x2 x3 : (⟨4, ![16, 2048, 4, 64]⟩ : Shape).Idx → EReal)
    (x4 x5 : (⟨4, ![16, 2048, 4, 128]⟩ : Shape).Idx → EReal) (x6 x7 : (⟨3, ![16, 2048, 4]⟩ : Shape).Idx → EReal) : Prop where
  q : ∀ b s h d, x2 (ix4 b s h d) = ((R.q b.val h s.val d : ℝ) : EReal)
  k : ∀ b s h d, x3 (ix4 b s h d) = ((R.k b.val h s.val d : ℝ) : EReal)
  v : ∀ b s h d, x4 (ix4 b s h d) = ((R.v b.val h s.val d : ℝ) : EReal)
  o : ∀ b s h d, x5 (ix4 b s h d) = ((R.o b.val h s.val d : ℝ) : EReal)
  i : ∀ b s h, x6 (ix3 b s h) = ((R.i b.val h s.val : ℝ) : EReal)
  f : ∀ b s h, x7 (ix3 b s h) = ((R.f b.val h s.val : ℝ) : EReal)

variable (m : (ℓ : Loc nD τ sig) → Buf (Elt Ideal) ℓ) (c : Dev nD)

/-- The arguments hold those numbers. -/
abbrev Given (R : Heads) : Prop := R.Holds (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7))

theorem coord_val : ∀ t : Fin cfg0.N, (grid0.coords t 0).val = t.val := by decide +kernel

theorem zero_cn (y : S4x144x64.Idx) : k0_pay12 (F := Ideal) y = 0 := by
  show Ideal.ofBits FTy.f32 0x00000000#32 = 0
  exact Ideal.ofBits_zero_f32
theorem zero_mr (y : S8x256.Idx) : k0_pay13 (F := Ideal) y = 0 := by
  show Ideal.ofBits FTy.f32 0x00000000#32 = 0
  exact Ideal.ofBits_zero_f32

variable {m c} {R : Heads} (G : Given m c R)

/-- What is carried to a tile is the recurrence's state before it. -/
def Carried (m : (ℓ : Loc nD τ sig) → Buf (Elt Ideal) ℓ) (c : Dev nD) (R : Heads) (t : Fin cfg0.N) (h : Fin 4) : Prop :=
  (∀ l : Fin 256, base2 (grid0.coords t) (St m c t.val).mr (ix2 (hr h) l) =
    ((bsum (R.f (t.val / 4) h) (512 * (t.val % 4)) + top (R.f (t.val / 4) h) (R.i (t.val / 4) h) (512 * (t.val % 4)) : ℝ) : EReal)) ∧
  (∀ (e : Fin 144) (d : Fin 64), base1 (grid0.coords t) (St m c t.val).cn (ix3 h e d) =
    ((state (R.f (t.val / 4) h) (R.i (t.val / 4) h) (fun s => vx (R.v (t.val / 4) h) s e * R.k (t.val / 4) h s d) (512 * (t.val % 4)) : ℝ) : EReal))

section At
variable (t : Fin cfg0.N) (l : Fin 512)

theorem sq_here (ht : t.val < 64) : (sq (here t l)).val = t.val / 4 := by
  have := l.isLt; simp only [sq, here]; omega
theorem pl_here (ht : t.val < 64) : (pl (here t l)).val = 512 * (t.val % 4) + l.val := by
  have := l.isLt; simp only [pl, here]; omega

variable (ht : t.val < 64)
include G ht
theorem tile_of (h : Fin 4) (C : Carried m c R t h) : Tile (iblk m c 3 t) (iblk m c 4 t) (iblk m c 6 t)
    (base1 (grid0.coords t) (St m c t.val).cn) (base2 (grid0.coords t) (St m c t.val).mr) h
    (R.f (t.val / 4) h) (R.i (t.val / 4) h) (R.k (t.val / 4) h) (R.v (t.val / 4) h) (512 * (t.val % 4)) where
  lf l := by rw [blk_g, V_f, G.f, sq_here t l ht, pl_here t l ht]
  ig l := by rw [blk_g, V_i, G.i, sq_here t l ht, pl_here t l ht]
  k l d := by
    rw [blk_k, V_k, G.k, sq_here t l ht, pl_here t l ht]
    congr 2
    · apply Fin.ext; simp only [hkey]; omega
    · apply Fin.ext; simp only [hkey]; omega
  v e l := by
    rw [blk_v, V_v, G.v, sq_here t l ht, pl_here t l ht]
    congr 2
    · apply Fin.ext; simp only [hrow]; omega
    · apply Fin.ext; simp only [hrow]; omega
  mr := C.1
  cn := C.2
end At

theorem carried_start (t : Fin cfg0.N) (h : Fin 4) (h0 : t.val % 4 = 0) : Carried m c R t h := by
  have hs := (atStart_iff t).mpr h0
  unfold Carried base1 base2
  rw [h0, if_pos hs, if_pos hs]
  refine ⟨fun l => ?_, fun e d => ?_⟩
  · rw [zero_mr, Nat.mul_zero, bsum_zero, zero_add]; rfl
  · rw [zero_cn, Nat.mul_zero, state_zero]; rfl

include G in
/-- What is carried from tile to tile. -/
theorem carried (h : Fin 4) : ∀ n (hn : n < 64), Carried m c R ⟨n, hn.trans (by decide)⟩ h := by
  intro n
  induction n with
  | zero => exact fun hn => carried_start _ h rfl
  | succ n ih =>
    intro hn
    by_cases h0 : (n + 1) % 4 = 0
    · exact carried_start _ h h0
    · have hl : n < 64 := by omega
      have T := tile_of G ⟨n, hl.trans (by decide)⟩ hl h (ih hl)
      have hs : ¬atStart (grid0.coords ⟨n + 1, hn.trans (by decide)⟩) := fun hs => h0 ((atStart_iff _).mp hs)
      have e1 : (n + 1) / 4 = n / 4 := by omega
      have e2 : 512 * ((n + 1) % 4) = 512 * (n % 4) + 512 := by omega
      have hS := St_succ m c ⟨n, hl.trans (by decide)⟩
      unfold Carried base1 base2
      rw [if_neg hs, if_neg hs]
      dsimp only at hS ⊢
      rw [e1, e2, hS]
      exact ⟨fun l => T.mr_out l, fun e d => T.cn_out e d⟩

section Out
variable (t : Fin cfg0.N) (ht : t.val < 64) (h : Fin 4)
include G ht

theorem tile_at : Tile (iblk m c 3 t) (iblk m c 4 t) (iblk m c 6 t)
    (base1 (grid0.coords t) (St m c t.val).cn) (base2 (grid0.coords t) (St m c t.val).mr) h
    (R.f (t.val / 4) h) (R.i (t.val / 4) h) (R.k (t.val / 4) h) (R.v (t.val / 4) h) (512 * (t.val % 4)) :=
  tile_of G t ht h (carried G h t.val ht)

/-- The stabilizer after a tile. -/
theorem mr_after (l : Fin 256) : (St m c (t.val + 1)).mr (ix2 (hr h) l) =
    ((bsum (R.f (t.val / 4) h) (512 * (t.val % 4) + 512) +
      top (R.f (t.val / 4) h) (R.i (t.val / 4) h) (512 * (t.val % 4) + 512) : ℝ) : EReal) := by
  rw [St_succ]
  exact (tile_at G t ht h).mr_out l

/-- The state after a tile. -/
theorem cn_after (e : Fin 144) (d : Fin 64) : (St m c (t.val + 1)).cn (ix3 h e d) =
    ((state (R.f (t.val / 4) h) (R.i (t.val / 4) h) (fun s => vx (R.v (t.val / 4) h) s e * R.k (t.val / 4) h s d)
      (512 * (t.val % 4) + 512) : ℝ) : EReal) := by
  rw [St_succ]
  exact (tile_at G t ht h).cn_out e d

/-- The mixed rows of a tile, in the slot they are left in. -/
theorem mix_after (a : Fin 2) (ha : a.val = t.val % 2) (e : Fin 128) (j : Fin 2) (l : Fin 256) :
    (St m c (t.val + 1)).mix (ix3 a (hrow h e) (jpos j l)) =
      mixv (R.f (t.val / 4) h) (R.i (t.val / 4) h) (R.v (t.val / 4) h) (R.o (t.val / 4) h) (R.k (t.val / 4) h) (R.q (t.val / 4) h)
        (512 * (t.val % 4) + (jpos j l).val) e * m ((c : Thread nD τ).loc main_arg8) (ix1 (hrow h e)) := by
  rw [St_succ]
  refine (mixOut_at _ _ _ _ _ _ _ _ j _ _ a h e l).trans ?_
  rw [if_pos (by rw [ha, coord_val]), (tile_at G t ht h).mix_out (qq := R.q (t.val / 4) h) (oo := R.o (t.val / 4) h), blk_gain, V_gain]
  · intro d l
    rw [blk_q, V_q, G.q, sq_here t l ht, pl_here t l ht]
    congr 2
    · apply Fin.ext; simp only [hkey]; omega
    · apply Fin.ext; simp only [hkey]; omega
  · intro e l
    rw [blk_o, V_o, G.o, sq_here t l ht, pl_here t l ht]
    congr 2
    · apply Fin.ext; simp only [hrow]; omega
    · apply Fin.ext; simp only [hrow]; omega
end Out

end Cert.KernelIdeal.Body

end
-- ==== Proof.Row.lean ====
module

public import Idealize.ShloMosaic.Lib.Pointwise

@[expose] public section

noncomputable section

namespace Cert.Model

open Idealize.ShloMosaic
open scoped BigOperators

/-- A row over the root of its mean square. -/
def rmsOf (x : Fin 1024 → EReal) (w : Fin 1024) : EReal :=
  x w * Ideal.rsqrt (Ideal.div (∑ u : Fin 1024, x u * x u) (Ideal.ofBits FTy.f32 0x44800000#32) + Ideal.ofBits FTy.f32 0x358637BD#32)

/-- The hidden layer of a row. -/
def hid (x g : Fin 1024 → EReal) (up : Fin 1024 → Fin 4096 → EReal) (a : Fin 4096) : EReal :=
  max (∑ w : Fin 1024, rmsOf x w * g w * up w a) 0

/-- The feed-forward part over a row, with its last normalization. -/
def ffn (x g : Fin 1024 → EReal) (up : Fin 1024 → Fin 4096 → EReal) (dn : Fin 4096 → Fin 1024 → EReal) (g' : Fin 1024 → EReal)
    (w : Fin 1024) : EReal :=
  rmsOf (fun u => x u + ∑ a : Fin 4096, hid x g up a * hid x g up a * dn a u) w * g' w

end Cert.Model

end
-- ==== Proof.Mlp.lean ====
module

public import proofs.«01_k».proof.Proof.Walk
public import proofs.«01_k».proof.Proof.Row

@[expose] public section

set_option maxRecDepth 16384

noncomputable section

namespace Cert.KernelIdeal.Body

open Cert.KernelIdeal Cert.KernelIdeal.Gen Cert.Model
open Idealize.ShloMosaic Idealize.ShloMosaic.TcCoe Idealize.ShloMosaic.Tactic
open scoped BigOperators

section Rows
variable (x0 : Vec Ideal S512x1024 .f32) (x1 : Vec Ideal S512x512 .bf16) (x8 : Vec Ideal S512x1024 .bf16) (x9 : Vec Ideal S512x1024 .bf16)
  (x10 : Vec Ideal S1x1024 .f32) (x11 : Vec Ideal S1024x4096 .bf16) (x12 : Vec Ideal S4096x1024 .bf16) (x13 : Vec Ideal S1x1024 .f32)
  (xs0 : Vec Ideal S2x512x512 .bf16) (i : grid0.Coords) (l : Fin 512) (w : Fin 1024)

theorem ffn_read (x : FVec Ideal S512x1024 .f32) :
    k0_pay134 (F := Ideal) (k0_pay132 x13) (k0_pay133 x (k0_pay54 (k0_pay52 x x10) (k0_pay53 x11) (constant S512x4096 .f32 0x00000000#32)) x12) (ix2 l w)
      = ffn (fun u => x (ix2 l u)) (fun u => x10 (ix2 0 u)) (fun u a => x11 (ix2 u a)) (fun a u => x12 (ix2 a u)) (fun u => x13 (ix2 0 u)) w := by
  pointwise [k0_pay134, k0_pay132, k0_pay133, k0_pay54, k0_pay52, k0_pay53, ffn, hid, rmsOf]

theorem resid_read (s : Fin 2) (hs : k0_off1 i = ![s.val, 0, 0]) : resid x0 x1 x8 x9 xs0 i (ix2 l w) =
    x0 (ix2 l w) + ∑ r : Fin 512, x1 (ix2 r l) * x8 (ix2 r w) + ∑ r : Fin 512, xs0 (ix3 s r l) * x9 (ix2 r w) := by
  pointwise [resid, k0_pay29, k0_pay28]
  have e0 : k0_off1 i 0 = s.val := by rw [hs]; rfl
  have e1 : k0_off1 i 1 = 0 := by rw [hs]; rfl
  have e2 : k0_off1 i 2 = 0 := by rw [hs]; rfl
  simp only [e0, e1, e2, Nat.zero_add]

theorem yOut_read (s : Fin 2) (hs : k0_off1 i = ![s.val, 0, 0]) : yOut x0 x1 x8 x9 x10 x11 x12 x13 xs0 i (ix2 l w) =
    ffn (fun u => x0 (ix2 l u) + ∑ r : Fin 512, x1 (ix2 r l) * x8 (ix2 r u) + ∑ r : Fin 512, xs0 (ix3 s r l) * x9 (ix2 r u))
      (fun u => x10 (ix2 0 u)) (fun u a => x11 (ix2 u a)) (fun a u => x12 (ix2 a u)) (fun u => x13 (ix2 0 u)) w := by
  unfold yOut
  refine (ffn_read _ _ _ _ l w _).trans ?_
  simp only [resid_read x0 x1 x8 x9 xs0 i l _ s hs]
  congr 1
  · funext u; pointwise
  · funext u a; pointwise
  · funext a u; pointwise
  · funext u; pointwise
end Rows

variable (m : (ℓ : Loc nD τ sig) → Buf (Elt Ideal) ℓ) (c : Dev nD)

theorem off1_at : ∀ t : Fin cfg0.N, k0_off1 (grid0.coords t) = ![(t.val + 1) % 2, 0, 0] := by decide +kernel

/-- A position's residual row, from the head arrays. -/
def x1Of (R : Heads) (A0 : (⟨3, ![16, 2048, 1024]⟩ : Shape).Idx → EReal) (A1 : (⟨3, ![16, 2048, 512]⟩ : Shape).Idx → EReal)
    (A8 : (⟨1, ![512]⟩ : Shape).Idx → EReal) (A9 : (⟨2, ![1024, 1024]⟩ : Shape).Idx → EReal) (b : Fin 16) (s : Fin 2048) (u : Fin 1024) : EReal :=
  A0 (ix3 b s u) + ∑ r : Fin 512, A1 (ix3 b s r) * A9 (ix2 ⟨r.val, by omega⟩ u) +
    ∑ r : Fin 512, (mixv (R.f b.val ⟨r.val / 128, by omega⟩) (R.i b.val ⟨r.val / 128, by omega⟩) (R.v b.val ⟨r.val / 128, by omega⟩)
      (R.o b.val ⟨r.val / 128, by omega⟩) (R.k b.val ⟨r.val / 128, by omega⟩) (R.q b.val ⟨r.val / 128, by omega⟩) s.val ⟨r.val % 128, by omega⟩
        * A8 (ix1 r)) * A9 (ix2 ⟨512 + r.val, by omega⟩ u)

variable {m c} {R : Heads} (G : Given m c R)
include G in
/-- The rows of tile `t`, as the next point stores them. -/
theorem y_at (t : Fin cfg0.N) (ht : t.val < 64) (l : Fin 512) (w : Fin 1024) (t' : Fin cfg0.N) (e : t'.val = t.val + 1) :
    yAt m c t' (ix2 l w) = ffn (x1Of R (m ((c : Thread nD τ).loc main_arg0)) (m ((c : Thread nD τ).loc main_arg1))
        (m ((c : Thread nD τ).loc main_arg8)) (m ((c : Thread nD τ).loc main_arg9)) (sq (here t l)) (pl (here t l)))
      (fun u => m ((c : Thread nD τ).loc main_arg10) (ix1 u)) (fun u a => m ((c : Thread nD τ).loc main_arg11) (ix2 u a))
      (fun a u => m ((c : Thread nD τ).loc main_arg12) (ix2 a u)) (fun u => m ((c : Thread nD τ).loc main_arg13) (ix1 u)) w := by
  have hp : prev t' l = here t l := Fin.ext (by simp only [prev, here]; omega)
  have hf : ¬atFirst (grid0.coords t') := fun hf => by have := (atFirst_iff t').mp hf; omega
  unfold yAt
  refine (yOut_read _ _ _ _ _ _ _ _ _ _ l w ⟨t.val % 2, by omega⟩ (by rw [off1_at, e]; congr 1; simp only; omega)).trans ?_
  unfold base0
  rw [if_neg hf]
  simp only [blk_x, blk_a, blk_woa, blk_wom, blk_g1, blk_up, blk_dn, blk_g2, V_x, V_a, V_woa, V_wom, V_g1, V_up, V_dn, V_g2, hp, e]
  congr 1
  · funext u
    unfold x1Of
    refine congrArg₂ (fun a b : EReal => a + b) (congrArg₂ (fun a b : EReal => a + b) (V_x m c _ u)
      (Finset.sum_congr (M := EReal) rfl fun r _ => congrArg₂ (fun a b : EReal => a * b) (V_a m c _ r) (V_woa m c r u)))
      (Finset.sum_congr (M := EReal) rfl fun r _ => congrArg₂ (fun a b : EReal => a * b) ?_ (V_wom m c r u))
    obtain ⟨h, e, rfl⟩ := hrow_surj r
    obtain ⟨j, l, rfl⟩ := jpos_surj l
    have h1 : (⟨(hrow h e).val / 128, by omega⟩ : Fin 4) = h := Fin.ext (by simp only [hrow]; omega)
    have h2 : (⟨(hrow h e).val % 128, by omega⟩ : Fin 128) = e := Fin.ext (by simp only [hrow]; omega)
    rw [mix_after G t ht h ⟨t.val % 2, by omega⟩ rfl e j l, h1, h2, sq_here t _ ht, pl_here t _ ht]
  · funext u
    exact V_g1 m c u
  · funext u
    exact V_g2 m c u

end Cert.KernelIdeal.Body

end
-- ==== Proof.Arrays.lean ====
module

public import proofs.«01_k».proof.Proof.Mlp
public import Idealize.ShloMosaic.Lib.Pipeline.ValueKit

@[expose] public section

set_option maxRecDepth 16384

noncomputable section

namespace Cert.KernelIdeal.Body

open Cert.KernelIdeal.Gen Cert.Model
open Idealize.ShloMosaic Idealize.ShloMosaic.TcCoe Idealize.ShloMosaic.Tactic
open scoped BigOperators

/-! The result arrays after the run. -/

variable (m : (ℓ : Loc nD τ sig) → Buf (Elt Ideal) ℓ) (c : Dev nD)

theorem flush0_14' : ∀ t : Fin cfg0.N, (cfg0.win 14).flush t = decide (t.val ≠ 0) := by decide +kernel
theorem idx14 : ∀ t : Fin cfg0.N, win0_14.index t 0 = t.val - 1 ∧ win0_14.index t 1 = 0 := by decide +kernel
theorem idx15 : ∀ t : Fin cfg0.N, win0_15.index t 0 = min t.val 63 / 4 ∧ win0_15.index t 1 = 0 ∧ win0_15.index t 2 = 0 ∧ win0_15.index t 3 = 0 := by decide +kernel
theorem idx16 : ∀ t : Fin cfg0.N, win0_16.index t 0 = min t.val 63 / 4 ∧ win0_16.index t 1 = 0 ∧ win0_16.index t 2 = 0 ∧ win0_16.index t 3 = 0 := by decide +kernel
theorem idx17 : ∀ t : Fin cfg0.N, win0_17.index t 0 = min t.val 63 / 4 ∧ win0_17.index t 1 = 0 ∧ win0_17.index t 2 = 0 := by decide +kernel

/-- The point that writes row `n` of the output back. -/
def yPt (n : Fin 32768) : Fin cfg0.N := ⟨n.val / 512 + 1, by show n.val / 512 + 1 < 65; omega⟩

/-- A block of the output read at an index with the same coordinates. -/
theorem yAt_congr {t t' : Fin cfg0.N} (y : S512x1024.Idx) (a : Fin 512) (b : Fin 1024) (ht : t.val = t'.val)
    (ha : (y 0).val = a.val) (hb : (y 1).val = b.val) : yAt m c t y = yAt m c t' (ix2 a b) := by
  obtain rfl : t = t' := Fin.ext ht
  refine congrArg (yAt m c t) (funext fun k => ?_)
  fin_cases k
  · exact Fin.ext ha
  · exact Fin.ext hb

theorem y_array : (dats m 0 c).arrAt 14 cfg0.N =
    fun i : S32768x1024.Idx => yAt m c (yPt (i 0)) (ix2 ⟨(i 0).val % 512, by omega⟩ (i 1)) := by
  refine (dats m 0 c).arrAt_eq_of_covers 14 _ (by decide +kernel) fun t hf y => ?_
  have ht : t.val ≠ 0 := by rw [flush0_14'] at hf; exact of_decide_eq_true hf
  have hy : (y 0).val < 512 := (y 0).isLt
  have e0 : (((cfg0.win 14).blk t).view.emb y 0 : ℕ) = (t.val - 1) * 512 + (y 0).val := by
    blk_simp [(idx14 t).1]
  have e1 : (((cfg0.win 14).blk t).view.emb y 1 : ℕ) = (y 1).val := by
    blk_simp [(idx14 t).2]
  rw [after0_14]
  refine yAt_congr m c y _ _ ?_ ?_ e1.symm
  · show _ = (((cfg0.win 14).blk t).view.emb y 0 : ℕ) / 512 + 1
    rw [e0]; omega
  · show _ = (((cfg0.win 14).blk t).view.emb y 0 : ℕ) % 512
    rw [e0]; omega

/-- The carried matrix read at equal coordinates after the same number of tiles. -/
theorem cn_congr {n n' : ℕ} (h h' : Fin 4) (e e' : Fin 144) (d d' : Fin 64) (hn : n = n') (hh : h.val = h'.val)
    (he : e.val = e'.val) (hd : d.val = d'.val) : (St m c n).cn (ix3 h e d) = (St m c n').cn (ix3 h' e' d') := by
  obtain rfl := hn
  obtain rfl : h = h' := Fin.ext hh
  obtain rfl : e = e' := Fin.ext he
  obtain rfl : d = d' := Fin.ext hd
  rfl

/-- The carried row of maxima read at equal coordinates after the same number of tiles. -/
theorem mr_congr {n n' : ℕ} (h h' : Fin 8) (e e' : Fin 256) (hn : n = n') (hh : h.val = h'.val)
    (he : e.val = e'.val) : (St m c n).mr (ix2 h e) = (St m c n').mr (ix2 h' e') := by
  obtain rfl := hn
  obtain rfl : h = h' := Fin.ext hh
  obtain rfl : e = e' := Fin.ext he
  rfl

theorem C_array : (dats m 0 c).arrAt 15 cfg0.N =
    fun i : S16x4x64x128.Idx => (St m c (4 * (i 0).val + 4)).cn (ix3 (i 1) ⟨(i 3).val, Nat.lt_trans (i 3).isLt (by decide)⟩ (i 2)) := by
  refine (dats m 0 c).arrAt_eq_of_covers 15 _ (by decide +kernel) fun t hf y => ?_
  have ht : t.val % 4 = 3 ∧ t.val ≠ 63 ∨ t.val = 64 := by rw [flush0_15'] at hf; exact of_decide_eq_true hf
  have hy : (y 0).val < 1 := (y 0).isLt
  have e0 : (((cfg0.win 15).blk t).view.emb y 0 : ℕ) = min t.val 63 / 4 := by
    blk_simp [(idx15 t).1]
  have e1 : (((cfg0.win 15).blk t).view.emb y 1 : ℕ) = (y 1).val := by
    blk_simp [(idx15 t).2.1]
  have e2 : (((cfg0.win 15).blk t).view.emb y 2 : ℕ) = (y 2).val := by
    blk_simp [(idx15 t).2.2.1]
  have e3 : (((cfg0.win 15).blk t).view.emb y 3 : ℕ) = (y 3).val := by
    blk_simp [(idx15 t).2.2.2]
  rw [after0_15]
  refine cn_congr m c _ _ _ _ _ _ ?_ e1.symm e3.symm e2.symm
  show _ = 4 * (((cfg0.win 15).blk t).view.emb y 0 : ℕ) + 4
  rw [e0]; omega

theorem n_array : (dats m 0 c).arrAt 16 cfg0.N =
    fun i : S16x4x1x64.Idx => (St m c (4 * (i 0).val + 4)).cn (ix3 (i 1) ⟨128, by decide⟩ (i 3)) := by
  refine (dats m 0 c).arrAt_eq_of_covers 16 _ (by decide +kernel) fun t hf y => ?_
  have ht : t.val % 4 = 3 ∧ t.val ≠ 63 ∨ t.val = 64 := by rw [flush0_16'] at hf; exact of_decide_eq_true hf
  have hy : (y 0).val < 1 := (y 0).isLt
  have e0 : (((cfg0.win 16).blk t).view.emb y 0 : ℕ) = min t.val 63 / 4 := by
    blk_simp [(idx16 t).1]
  have e1 : (((cfg0.win 16).blk t).view.emb y 1 : ℕ) = (y 1).val := by
    blk_simp [(idx16 t).2.1]
  have e3 : (((cfg0.win 16).blk t).view.emb y 3 : ℕ) = (y 3).val := by
    blk_simp [(idx16 t).2.2.2]
  rw [after0_16]
  refine cn_congr m c _ _ _ _ _ _ ?_ e1.symm rfl e3.symm
  show _ = 4 * (((cfg0.win 16).blk t).view.emb y 0 : ℕ) + 4
  rw [e0]; omega

theorem m_array : (dats m 0 c).arrAt 17 cfg0.N =
    fun i : S16x8x256.Idx => (St m c (4 * (i 0).val + 4)).mr (ix2 (i 1) (i 2)) := by
  refine (dats m 0 c).arrAt_eq_of_covers 17 _ (by decide +kernel) fun t hf y => ?_
  have ht : t.val % 4 = 3 ∧ t.val ≠ 63 ∨ t.val = 64 := by rw [flush0_17'] at hf; exact of_decide_eq_true hf
  have hy : (y 0).val < 1 := (y 0).isLt
  have e0 : (((cfg0.win 17).blk t).view.emb y 0 : ℕ) = min t.val 63 / 4 := by
    blk_simp [(idx17 t).1]
  have e1 : (((cfg0.win 17).blk t).view.emb y 1 : ℕ) = (y 1).val := by
    blk_simp [(idx17 t).2.1]
  have e2 : (((cfg0.win 17).blk t).view.emb y 2 : ℕ) = (y 2).val := by
    blk_simp [(idx17 t).2.2]
  rw [after0_17]
  refine mr_congr m c _ _ _ _ ?_ e1.symm e2.symm
  show _ = 4 * (((cfg0.win 17).blk t).view.emb y 0 : ℕ) + 4
  rw [e0]; omega

variable {m c} {R : Heads} (G : Given m c R)
include G

/-- The output, row by row. -/
theorem y_final (n : Fin 32768) (u : Fin 1024) : (dats m 0 c).arrAt 14 cfg0.N (ix2 n u) =
    ffn (x1Of R (m ((c : Thread nD τ).loc main_arg0)) (m ((c : Thread nD τ).loc main_arg1)) (m ((c : Thread nD τ).loc main_arg8)) (m ((c : Thread nD τ).loc main_arg9)) (sq n) (pl n))
      (fun w => m ((c : Thread nD τ).loc main_arg10) (ix1 w)) (fun w a => m ((c : Thread nD τ).loc main_arg11) (ix2 w a))
      (fun a w => m ((c : Thread nD τ).loc main_arg12) (ix2 a w)) (fun w => m ((c : Thread nD τ).loc main_arg13) (ix1 w)) u := by
  have hn := n.isLt
  have key := y_at G ⟨n.val / 512, by show n.val / 512 < 65; omega⟩ (by show n.val / 512 < 64; omega) ⟨n.val % 512, by omega⟩ u (yPt n) rfl
  have hh : here ⟨n.val / 512, by show n.val / 512 < 65; omega⟩ ⟨n.val % 512, by omega⟩ = n := by
    apply Fin.ext
    show 512 * min (n.val / 512) 63 + n.val % 512 = n.val
    omega
  rw [hh] at key
  rw [y_array]
  exact key

/-- The last point of sequence `b`. -/
def lastPt (b : Fin 16) : Fin cfg0.N := ⟨4 * b.val + 3, by show 4 * b.val + 3 < 65; omega⟩

theorem C_final (b : Fin 16) (h : Fin 4) (d : Fin 64) (e : Fin 128) : (dats m 0 c).arrAt 15 cfg0.N (ix4 b h d e) =
    ((state (R.f b.val h) (R.i b.val h) (fun s => vx (R.v b.val h) s ⟨e.val, Nat.lt_trans e.isLt (by decide)⟩ * R.k b.val h s d) 2048 : ℝ) : EReal) := by
  have key := cn_after G (lastPt b) (by show 4 * b.val + 3 < 64; omega) h ⟨e.val, Nat.lt_trans e.isLt (by decide)⟩ d
  rw [C_array]
  have h1 : (lastPt b).val / 4 = b.val := by show (4 * b.val + 3) / 4 = b.val; omega
  have h2 : 512 * ((lastPt b).val % 4) + 512 = 2048 := by show 512 * ((4 * b.val + 3) % 4) + 512 = 2048; omega
  rw [h1, h2] at key
  exact key

theorem n_final (b : Fin 16) (h : Fin 4) (d : Fin 64) : (dats m 0 c).arrAt 16 cfg0.N (ix4 b h 0 d) =
    ((state (R.f b.val h) (R.i b.val h) (fun s => vx (R.v b.val h) s ⟨128, by decide⟩ * R.k b.val h s d) 2048 : ℝ) : EReal) := by
  have key := cn_after G (lastPt b) (by show 4 * b.val + 3 < 64; omega) h ⟨128, by decide⟩ d
  rw [n_array]
  have h1 : (lastPt b).val / 4 = b.val := by show (4 * b.val + 3) / 4 = b.val; omega
  have h2 : 512 * ((lastPt b).val % 4) + 512 = 2048 := by show 512 * ((4 * b.val + 3) % 4) + 512 = 2048; omega
  rw [h1, h2] at key
  exact key

theorem m_final (b : Fin 16) (h : Fin 4) (l : Fin 256) : (dats m 0 c).arrAt 17 cfg0.N (ix3 b (hr h) l) =
    ((bsum (R.f b.val h) 2048 + top (R.f b.val h) (R.i b.val h) 2048 : ℝ) : EReal) := by
  have key := mr_after G (lastPt b) (by show 4 * b.val + 3 < 64; omega) h l
  rw [m_array]
  have h1 : (lastPt b).val / 4 = b.val := by show (4 * b.val + 3) / 4 = b.val; omega
  have h2 : 512 * ((lastPt b).val % 4) + 512 = 2048 := by show 512 * ((4 * b.val + 3) % 4) + 512 = 2048; omega
  rw [h1, h2] at key
  exact key

end Cert.KernelIdeal.Body

end
-- ==== Proof.RefGates.lean ====
module

public import proofs.«01_k».proof.Proof.Gen.ReferenceIdeal.Read
public import proofs.«01_k».proof.Proof.Walk
public import Idealize.ShloMosaic.Lib.Pointwise

@[expose] public section

namespace Cert.ReferenceIdeal.Read

open Idealize.ShloMosaic Cert.Model Cert.KernelIdeal.Body
open scoped BigOperators

/-! The reference's gates, read at an index as numbers of the recurrence. -/

theorem foldl_add {N : ℕ} (g : Fin N → EReal) (v : EReal) (L : List (Fin N)) :
    L.foldl (fun r n => r + g n) v = v + (L.map g).sum := by
  induction L generalizing v with
  | nil => simp
  | cons a L ih => simp only [List.foldl_cons, List.map_cons, List.sum_cons, ih, add_assoc]

theorem foldl_finRange {N : ℕ} (g : Fin N → EReal) (v : EReal) :
    (List.finRange N).foldl (fun r n => r + g n) v = v + ∑ n, g n := by
  rw [foldl_add, ← List.sum_ofFn, List.ofFn_eq_map]

/-- The last `t + 1` positions of a window of `N` are the first `t + 1` of the operand. -/
theorem window_nat (N t : ℕ) (ht : t < N) (w : ℕ → ℝ) :
    ∑ k : Fin N, (if N - 1 ≤ t + k.val then w (t + k.val - (N - 1)) else 0) = ∑ s ∈ Finset.range (t + 1), w s := by
  obtain ⟨a, rfl⟩ : ∃ a, N = a + (t + 1) := ⟨N - (t + 1), by omega⟩
  rw [Fin.sum_univ_eq_sum_range (fun k => if a + (t + 1) - 1 ≤ t + k then w (t + k - (a + (t + 1) - 1)) else 0) (a + (t + 1)),
    Finset.sum_range_add, Finset.sum_eq_zero, zero_add]
  · refine Finset.sum_congr rfl fun s _ => ?_
    rw [if_pos (by omega)]
    congr 1
    omega
  · intro k hk
    rw [if_neg]
    have := Finset.mem_range.mp hk
    omega

theorem cumsum_at {B H N M : ℕ} (hN : N = M + 1) (x : (⟨3, ![B, H, N]⟩ : Shape).Idx → EReal) (w : ℕ → ℝ) (b : Fin B) (h : Fin H)
    (hx : ∀ s : Fin N, x (ix3 b h s) = ((w s.val : ℝ) : EReal))
    (hW : (⟨3, ![B, H, N]⟩ : Shape).ReduceWindows ![1, 1, N] ![1, 1, 1] ![0, 0, M] ![0, 0, 0] ⟨3, ![B, H, N]⟩) (t : Fin N) :
    Ideal.hostReduceWindowAdd ![1, 1, N] ![1, 1, 1] ![0, 0, M] ![0, 0, 0] hW x 0 (ix3 b h t) = ((bsum w (t.val + 1) : ℝ) : EReal) := by
  unfold Ideal.hostReduceWindowAdd Host.reduceWindow
  rw [foldl_finRange, zero_add]
  have hb := b.isLt
  have hh := h.isLt
  have ht := t.isLt
  let g : (⟨3, ![1, 1, N]⟩ : Shape).Idx → EReal := fun y =>
    ((if N - 1 ≤ t.val + (y 2).val then w (t.val + (y 2).val - (N - 1)) else 0 : ℝ) : EReal)
  refine (Finset.sum_congr (M := EReal) (g := fun n => g ((Shape.rowMajor (⟨3, ![1, 1, N]⟩ : Shape)).symm n)) rfl fun n _ => ?_).trans
    (Eq.trans (Equiv.sum_comp (Shape.rowMajor (⟨3, ![1, 1, N]⟩ : Shape)).symm g) ?_)
  · show _ = ((if N - 1 ≤ t.val + _ then w (t.val + _ - (N - 1)) else 0 : ℝ) : EReal)
    have h0 : (((Shape.rowMajor (⟨3, ![1, 1, N]⟩ : Shape)).symm n) 0).val = 0 := by have : (((Shape.rowMajor (⟨3, ![1, 1, N]⟩ : Shape)).symm n) 0).val < 1 := (((Shape.rowMajor (⟨3, ![1, 1, N]⟩ : Shape)).symm n) 0).isLt; omega
    have h1 : (((Shape.rowMajor (⟨3, ![1, 1, N]⟩ : Shape)).symm n) 1).val = 0 := by have : (((Shape.rowMajor (⟨3, ![1, 1, N]⟩ : Shape)).symm n) 1).val < 1 := (((Shape.rowMajor (⟨3, ![1, 1, N]⟩ : Shape)).symm n) 1).isLt; omega
    have h2 : (((Shape.rowMajor (⟨3, ![1, 1, N]⟩ : Shape)).symm n) 2).val < N := (((Shape.rowMajor (⟨3, ![1, 1, N]⟩ : Shape)).symm n) 2).isLt
    by_cases hk : N - 1 ≤ t.val + (((Shape.rowMajor (⟨3, ![1, 1, N]⟩ : Shape)).symm n) 2).val
    · rw [if_pos hk]
      have hin : ∀ a : Fin 3, (![0, 0, M] : Fin 3 → ℕ) a ≤ (ix3 b h t a).val * (![1, 1, 1] : Fin 3 → ℕ) a + (((Shape.rowMajor (⟨3, ![1, 1, N]⟩ : Shape)).symm n) a).val ∧
          (ix3 b h t a).val * (![1, 1, 1] : Fin 3 → ℕ) a + (((Shape.rowMajor (⟨3, ![1, 1, N]⟩ : Shape)).symm n) a).val - (![0, 0, M] : Fin 3 → ℕ) a < (![B, H, N] : Fin 3 → ℕ) a := by
        intro a
        match a with
        | 0 => exact ⟨Nat.zero_le _, by show b.val * 1 + (((Shape.rowMajor (⟨3, ![1, 1, N]⟩ : Shape)).symm n) 0).val - 0 < B; omega⟩
        | 1 => exact ⟨Nat.zero_le _, by show h.val * 1 + (((Shape.rowMajor (⟨3, ![1, 1, N]⟩ : Shape)).symm n) 1).val - 0 < H; omega⟩
        | 2 => exact ⟨by show M ≤ t.val * 1 + (((Shape.rowMajor (⟨3, ![1, 1, N]⟩ : Shape)).symm n) 2).val; omega, by show t.val * 1 + (((Shape.rowMajor (⟨3, ![1, 1, N]⟩ : Shape)).symm n) 2).val - M < N; omega⟩
      refine (dif_pos hin).trans ((congrArg x ?_).trans (hx ⟨t.val + (((Shape.rowMajor (⟨3, ![1, 1, N]⟩ : Shape)).symm n) 2).val - (N - 1), by omega⟩))
      funext a
      match a with
      | 0 => exact Fin.ext (by show b.val * 1 + (((Shape.rowMajor (⟨3, ![1, 1, N]⟩ : Shape)).symm n) 0).val - 0 = b.val; omega)
      | 1 => exact Fin.ext (by show h.val * 1 + (((Shape.rowMajor (⟨3, ![1, 1, N]⟩ : Shape)).symm n) 1).val - 0 = h.val; omega)
      | 2 => exact Fin.ext (by show t.val * 1 + (((Shape.rowMajor (⟨3, ![1, 1, N]⟩ : Shape)).symm n) 2).val - M = t.val + (((Shape.rowMajor (⟨3, ![1, 1, N]⟩ : Shape)).symm n) 2).val - (N - 1); omega)
    · rw [if_neg hk]
      refine dif_neg fun hin => hk ?_
      have : M ≤ t.val * 1 + (((Shape.rowMajor (⟨3, ![1, 1, N]⟩ : Shape)).symm n) 2).val := (hin 2).1
      omega
  · rw [sum_idx3]
    simp only [Finset.univ_unique, Finset.sum_singleton]
    rw [show bsum w (t.val + 1) = ∑ s ∈ Finset.range (t.val + 1), w s from rfl, ← window_nat N t.val t.isLt w, ← coe_sum]
    rfl

end Cert.ReferenceIdeal.Read

end
-- ==== Proof.RefSteps.lean ====
module

public import proofs.«01_k».proof.Proof.RefGates

@[expose] public section

set_option maxRecDepth 16384

namespace Cert.ReferenceIdeal.Read

open Cert.ReferenceIdeal.Gen
open Idealize.ShloMosaic Cert.Model Cert.KernelIdeal.Body
open scoped BigOperators

variable {R : Heads} {x2 x3 : (⟨4, ![16, 2048, 4, 64]⟩ : Shape).Idx → EReal}
  {x4 x5 : (⟨4, ![16, 2048, 4, 128]⟩ : Shape).Idx → EReal} {x6 x7 : (⟨3, ![16, 2048, 4]⟩ : Shape).Idx → EReal}
  (G : R.Holds x2 x3 x4 x5 x6 x7) (b : Fin 16) (h : Fin 4)

theorem windowAdd_eq {s t u : Shape} (window strides lo hi : Fin s.rank → ℕ) (x : FVec Ideal s .f32) (init : u.Idx → Ideal .f32)
    (h : s.ReduceWindows window strides lo hi t) (hu : 0 < u.numel) :
    Host.reduceWindowAdd window strides lo hi x init h hu = Ideal.hostReduceWindowAdd window strides lo hi h x (init (Shape.Idx.first hu)) := rfl

theorem vx_last (vv : ℕ → Fin 128 → ℝ) (s : ℕ) : vx vv s 128 = 1 := by
  unfold vx
  rw [dif_neg (by decide)]
  exact if_pos rfl

include G in
theorem v10_at (t : Fin 2048) : val_main_v10 (F := Ideal) x7 (ix3 b h t) = ((bsum (R.f b.val h) (t.val + 1) : ℝ) : EReal) := by
  refine Eq.trans ?_ (cumsum_at (B := 16) (H := 4) (N := 2048) (M := 2047) rfl (val_main_v7 (F := Ideal) x7) (R.f b.val h) b h (fun s => ?_)
    reduceWindows_S16x4x2048_S16x4x2048_w1s1p0_0_w1s1p0_0_w2048s1p2047_0 t)
  · unfold val_main_v10
    rw [windowAdd_eq, val_main_call1_call0_v0_apply, val_main_call1_call0_cst_apply]
    rw [show (FloatOps.ofBits .f32 0x00000000#32 : Ideal .f32) = 0 from Ideal.ofBits_zero_f32]
  · exact (by pointwise [val_main_v7] : val_main_v7 (F := Ideal) x7 (ix3 b h s) = x7 (ix3 b s h)).trans (G.f b s h)

include G in
theorem v19_at (t s : Fin 2048) : val_main_v19 (F := Ideal) x6 x7 (ix4 b h t s) =
    if s.val ≤ t.val then ((bsum (R.f b.val h) (t.val + 1) + adj (R.f b.val h) (R.i b.val h) s.val : ℝ) : EReal) else ⊥ := by
  pointwise [val_main_v19, val_main_call2_v1, val_main_v9, val_main_call0_v4, val_main_call0_v2, val_main_call0_v3, val_main_call0_v5,
    val_main_v8, val_main_v18, val_main_v17, val_main_v16, val_main_v6, val_main_v15, val_main_v14, val_main_v13, val_main_v12,
    val_main_v11, val_main_call2_v2, val_main_call2_v0, val_main_call0_v0, val_main_call0_v1, val_main_c, val_main_call0_c,
    val_main_call0_c_0, val_main_cst_2]
  rw [v10_at G b h t, v10_at G b h s, G.i]
  rw [show IntOp.addi (BitVec.ofNat 32 t.val) 0#32 = BitVec.ofNat 32 t.val from BitVec.add_zero _,
    WordCmp.cmpi_sge_ofNat (by omega) (by omega), flag_select (s.val ≤ t.val) 1#1 0#1]
  by_cases hs : s.val ≤ t.val
  · rw [if_pos hs, if_pos hs, ← EReal.coe_sub, ← EReal.coe_add]
    refine Eq.trans (b := ((bsum (R.f b.val h) (t.val + 1) - bsum (R.f b.val h) (s.val + 1) + R.i b.val h s.val : ℝ) : EReal)) rfl ?_
    congr 1
    unfold adj; ring
  · rw [if_neg hs, if_neg hs]
    exact lit_bot

theorem rowmax {B H N M : ℕ} (x : FVec Ideal (⟨4, ![B, H, N, M]⟩ : Shape) .f32) (init : S_.Idx → EReal)
    (hR : (⟨4, ![B, H, N, M]⟩ : Shape).ReducesTo [3] ⟨3, ![B, H, N]⟩) (hu : 0 < S_.numel) (b : Fin B) (h : Fin H) (t : Fin N) :
    Host.reduce (FloatOps.maximumf (F := Ideal) (φ := .f32)) x init hR hu (ix3 b h t) =
      Finset.univ.fold max (init (Shape.Idx.first hu)) fun s => x (ix4 b h t s) := by
  pointwise

theorem v24_read (t : Fin 2048) : val_main_v24 (F := Ideal) x6 x7 (ix3 b h t) =
    max (val_main_v10 (F := Ideal) x7 (ix3 b h t) + val_main_cst_1 (F := Ideal) ix0)
      (Finset.univ.fold max (val_main_cst_3 (F := Ideal) (Shape.Idx.first h_S_)) fun s => val_main_v19 (F := Ideal) x6 x7 (ix4 b h t s)) := by
  have e : val_main_v23 (F := Ideal) x6 x7 (ix3 b h t) = _ := rowmax (B := 16) (H := 4) (N := 2048) (M := 2048)
    (val_main_v19 (F := Ideal) x6 x7) (val_main_cst_3 (F := Ideal)) reducesTo_S16x4x2048x2048_S16x4x2048_d3 h_S_ b h t
  rw [← e]
  pointwise [val_main_v24, val_main_v22, val_main_v21, val_main_v20, val_main_v2]

theorem sup_fin_ite (N n : ℕ) (hn : n < N) (u : ℕ → EReal) :
    (Finset.univ.fold max ⊥ fun s : Fin N => if s.val ≤ n then u s.val else ⊥) = (Finset.range (n + 1)).sup u := by
  show Finset.univ.sup (fun s : Fin N => if s.val ≤ n then u s.val else ⊥) = _
  apply le_antisymm
  · refine Finset.sup_le fun s _ => ?_
    split
    · exact Finset.le_sup (f := u) (Finset.mem_range.mpr (by omega))
    · exact bot_le
  · refine Finset.sup_le fun s hs => ?_
    have := Finset.mem_range.mp hs
    refine le_trans ?_ (Finset.le_sup (f := fun s : Fin N => if s.val ≤ n then u s.val else ⊥) (Finset.mem_univ (⟨s, by omega⟩ : Fin N)))
    show u s ≤ if s ≤ n then u s else ⊥
    rw [if_pos (by omega)]

include G in
theorem v24_at (t : Fin 2048) : val_main_v24 (F := Ideal) x6 x7 (ix3 b h t) =
    ((bsum (R.f b.val h) (t.val + 1) + top (R.f b.val h) (R.i b.val h) (t.val + 1) : ℝ) : EReal) := by
  have e := max_sup_range (R.f b.val h) (R.i b.val h) (bsum (R.f b.val h) (t.val + 1)) 0 (t.val + 1)
  rw [Nat.zero_add] at e
  rw [v24_read, v10_at G b h t, ← e]
  refine congrArg₂ (fun a b : EReal => max a b) ?_ ?_
  · rw [show val_main_cst_1 (F := Ideal) ix0 = 0 from Ideal.ofBits_zero_f32, add_zero]
    show _ = ((_ + (0 : ℝ) : ℝ) : EReal)
    rw [add_zero]
  · rw [show val_main_cst_3 (F := Ideal) (Shape.Idx.first h_S_) = ⊥ from lit_bot]
    simp only [v19_at G b h t]
    refine (sup_fin_ite 2048 t.val t.isLt (fun s => ((bsum (R.f b.val h) (t.val + 1) + adj (R.f b.val h) (R.i b.val h) s : ℝ) : EReal))).trans ?_
    refine Finset.sup_congr rfl fun s _ => ?_
    rw [Nat.zero_add, add_comm]

include G in
theorem v35_at (t s : Fin 2048) : val_main_v35 (F := Ideal) x2 x3 x6 x7 (ix4 b h t s) =
    ((if s.val < t.val + 1 then wgt (R.f b.val h) (R.i b.val h) (t.val + 1) s.val * ∑ d, R.k b.val h s.val d * R.q b.val h t.val d else 0 : ℝ) : EReal) := by
  pointwise [val_main_v35, val_main_v34, val_main_v28, val_main_v27, val_main_v26, val_main_v25, val_main_v3, val_main_v4]
  rw [v19_at G b h t s, v24_at G b h t]
  have e : ∑ x : Fin 64, x2 (ix4 b t h x) * x3 (ix4 b s h x) = ((∑ d, R.k b.val h s.val d * R.q b.val h t.val d : ℝ) : EReal) := by
    rw [← coe_sum]
    refine Finset.sum_congr rfl fun d _ => ?_
    rw [G.q, G.k, ← EReal.coe_mul, mul_comm]
  rw [e]
  by_cases hs : s.val ≤ t.val
  · rw [if_pos hs, if_pos (by omega), ← EReal.coe_sub, Ideal.exp_coe, ← EReal.coe_mul, mul_comm]
    congr 2
    unfold wgt; congr 1
    ring
  · rw [if_neg hs, if_neg (by omega), EReal.bot_sub, Ideal.exp_bot, mul_zero]
    rfl

theorem v52_read (t : Fin 2048) (e : Fin 128) : val_main_v52 (F := Ideal) x2 x3 x4 x6 x7 (ix4 b h t e) =
    Ideal.div (∑ s : Fin 2048, val_main_v35 (F := Ideal) x2 x3 x6 x7 (ix4 b h t s) * x4 (ix4 b s h e))
      (max (FloatOps.absf (F := Ideal) (φ := .f32) (∑ s : Fin 2048, val_main_v35 (F := Ideal) x2 x3 x6 x7 (ix4 b h t s)) : EReal)
        (Ideal.exp (-val_main_v24 (F := Ideal) x6 x7 (ix3 b h t)))) := by
  have z0 : val_main_cst (F := Ideal) ix0 = 0 := Ideal.ofBits_zero_f32
  have z1 : val_main_cst_0 (F := Ideal) ix0 = 0 := Ideal.ofBits_zero_f32
  have z2 : val_main_cst_4 (F := Ideal) (Shape.Idx.first h_S_) = 0 := Ideal.ofBits_zero_f32
  pointwise [val_main_v52, val_main_v51, val_main_v50, val_main_v49, val_main_v48, val_main_v47, val_main_v46, val_main_v45, val_main_v44,
    val_main_v43, val_main_v42, val_main_v41, val_main_v40, val_main_v39, val_main_v37, val_main_v3, val_main_v5, val_main_v0, val_main_v1]
  simp only [z0, z1, z2, mul_zero, Finset.sum_const_zero, zero_add]

include G in
theorem numer_at (t : Fin 2048) (e : Fin 144) (y : Fin 2048 → EReal) (hy : ∀ s, y s = ((vx (R.v b.val h) s.val e : ℝ) : EReal)) :
    ∑ s : Fin 2048, val_main_v35 (F := Ideal) x2 x3 x6 x7 (ix4 b h t s) * y s =
      ((nd (R.f b.val h) (R.i b.val h) (R.v b.val h) (R.k b.val h) (R.q b.val h) t.val e : ℝ) : EReal) := by
  unfold nd state
  rw [← sum_fin_ite 2048 (t.val + 1) (by omega), ← coe_sum]
  refine Finset.sum_congr rfl fun s _ => ?_
  rw [v35_at G b h t s, hy, ← EReal.coe_mul]
  congr 1
  split
  · ring
  · exact zero_mul _

include G in
theorem v52_at (t : Fin 2048) (e : Fin 128) : val_main_v52 (F := Ideal) x2 x3 x4 x6 x7 (ix4 b h t e) =
    ((nd (R.f b.val h) (R.i b.val h) (R.v b.val h) (R.k b.val h) (R.q b.val h) t.val ⟨e.val, by omega⟩ *
      (1 / den (R.f b.val h) (R.i b.val h) (R.v b.val h) (R.k b.val h) (R.q b.val h) t.val) : ℝ) : EReal) := by
  have h1 := numer_at G b h t ⟨e.val, by omega⟩ (fun s => x4 (ix4 b s h e)) fun s => by
    rw [G.v]; congr 1; unfold vx; rw [dif_pos e.isLt]
  have h2 := numer_at G b h t 128 (fun _ => 1) fun s => by
    rw [vx_last]; rfl
  simp only [mul_one] at h2
  rw [v52_read, h1, h2, v24_at G b h t, Ideal.absf_def, ← EReal.coe_neg, ← EReal.coe_neg, Ideal.exp_coe, ← coe_max, ← coe_max]
  exact (Ideal.div_coe (ne_of_gt (den_pos _ _ _ _ _ t.val)) _).trans (EReal.coe_mul _ _).symm

/-! ## The state after the whole sequence -/

theorem v54_read : val_main_v54 (F := Ideal) x6 x7 (ix2 b h) = val_main_v24 (F := Ideal) x6 x7 (ix3 b h 2047) := by
  pointwise [val_main_v54, val_main_v53]

include G in
theorem v54_at : val_main_v54 (F := Ideal) x6 x7 (ix2 b h) =
    ((bsum (R.f b.val h) 2048 + top (R.f b.val h) (R.i b.val h) 2048 : ℝ) : EReal) :=
  (v54_read b h).trans (v24_at G b h 2047)

theorem v62_read (t : Fin 2048) : val_main_v62 (F := Ideal) x6 x7 (ix3 b h t) = Ideal.exp (val_main_v10 (F := Ideal) x7 (ix3 b h 2047)
    - val_main_v10 (F := Ideal) x7 (ix3 b h t) + x6 (ix3 b t h) - val_main_v54 (F := Ideal) x6 x7 (ix2 b h)) := by
  pointwise [val_main_v62, val_main_v61, val_main_v60, val_main_v59, val_main_v58, val_main_v57, val_main_v56, val_main_v55, val_main_v6]

include G in
theorem v62_at (t : Fin 2048) : val_main_v62 (F := Ideal) x6 x7 (ix3 b h t) =
    ((wgt (R.f b.val h) (R.i b.val h) 2048 t.val : ℝ) : EReal) := by
  rw [v62_read, v10_at G b h t, v10_at G b h 2047, v54_at G b h, G.i, ← EReal.coe_sub, ← EReal.coe_add, ← EReal.coe_sub, Ideal.exp_coe]
  congr 1
  unfold wgt adj
  congr 1
  show bsum (R.f b.val h) 2048 - _ + _ - _ = _
  ring

theorem v75_read (d : Fin 64) (e : Fin 128) : val_main_v75 (F := Ideal) x3 x4 x6 x7 (ix4 b h d e) =
    ∑ s : Fin 2048, val_main_v62 (F := Ideal) x6 x7 (ix3 b h s) * x3 (ix4 b s h d) * x4 (ix4 b s h e) := by
  have z0 : val_main_cst (F := Ideal) ix0 = 0 := Ideal.ofBits_zero_f32
  pointwise [val_main_v75, val_main_v74, val_main_v73, val_main_v72, val_main_v71, val_main_v70, val_main_v4, val_main_v5, val_main_v0]
  simp only [z0, mul_zero, zero_add]

theorem v80_read (d : Fin 64) : val_main_v80 (F := Ideal) x3 x6 x7 (ix3 b h d) =
    ∑ s : Fin 2048, val_main_v62 (F := Ideal) x6 x7 (ix3 b h s) * x3 (ix4 b s h d) := by
  have z0 : val_main_cst_0 (F := Ideal) ix0 = 0 := Ideal.ofBits_zero_f32
  pointwise [val_main_v80, val_main_v79, val_main_v78, val_main_v4, val_main_v1]
  simp only [z0, mul_zero, zero_add]

include G in
theorem last_at (d : Fin 64) (e : Fin 144) (y : Fin 2048 → EReal) (hy : ∀ s, y s = ((vx (R.v b.val h) s.val e : ℝ) : EReal)) :
    ∑ s : Fin 2048, val_main_v62 (F := Ideal) x6 x7 (ix3 b h s) * x3 (ix4 b s h d) * y s =
      ((state (R.f b.val h) (R.i b.val h) (fun s => vx (R.v b.val h) s e * R.k b.val h s d) 2048 : ℝ) : EReal) := by
  unfold state
  rw [← Fin.sum_univ_eq_sum_range, ← coe_sum]
  refine Finset.sum_congr rfl fun s _ => ?_
  rw [v62_at G b h s, hy, G.k, ← EReal.coe_mul, ← EReal.coe_mul]
  congr 1
  ring

include G in
/-- The matrix state. -/
theorem v75_at (d : Fin 64) (e : Fin 128) : val_main_v75 (F := Ideal) x3 x4 x6 x7 (ix4 b h d e) =
    ((state (R.f b.val h) (R.i b.val h) (fun s => vx (R.v b.val h) s ⟨e.val, by omega⟩ * R.k b.val h s d) 2048 : ℝ) : EReal) :=
  (v75_read b h d e).trans (last_at G b h d ⟨e.val, by omega⟩ (fun s => x4 (ix4 b s h e)) fun s => by
    rw [G.v]; congr 1; unfold vx; rw [dif_pos e.isLt])

include G in
/-- The vector state. -/
theorem v80_at (d : Fin 64) : val_main_v80 (F := Ideal) x3 x6 x7 (ix3 b h d) =
    ((state (R.f b.val h) (R.i b.val h) (fun s => vx (R.v b.val h) s 128 * R.k b.val h s d) 2048 : ℝ) : EReal) := by
  have e := last_at G b h d 128 (fun _ => 1) fun s => by
    rw [vx_last]; rfl
  simp only [mul_one] at e
  exact (v80_read b h d).trans e

end Cert.ReferenceIdeal.Read

end
-- ==== Proof.RefOut.lean ====
module

public import proofs.«01_k».proof.Proof.RefSteps
public import proofs.«01_k».proof.Proof.Mlp

@[expose] public section

set_option maxRecDepth 16384

namespace Cert.ReferenceIdeal.Read

open Cert.ReferenceIdeal.Gen
open Idealize.ShloMosaic Cert.Model Cert.KernelIdeal.Body
open scoped BigOperators

variable {R : Heads} {x2 x3 : (⟨4, ![16, 2048, 4, 64]⟩ : Shape).Idx → EReal}
  {x4 x5 : (⟨4, ![16, 2048, 4, 128]⟩ : Shape).Idx → EReal} {x6 x7 : (⟨3, ![16, 2048, 4]⟩ : Shape).Idx → EReal}
  (G : R.Holds x2 x3 x4 x5 x6 x7) (x0 : (⟨3, ![16, 2048, 1024]⟩ : Shape).Idx → EReal) (x1 : (⟨3, ![16, 2048, 512]⟩ : Shape).Idx → EReal)
  (x8 : (⟨1, ![512]⟩ : Shape).Idx → EReal) (x9 : (⟨2, ![1024, 1024]⟩ : Shape).Idx → EReal)
  (x10 : (⟨1, ![1024]⟩ : Shape).Idx → EReal) (x11 : (⟨2, ![1024, 4096]⟩ : Shape).Idx → EReal) (x12 : (⟨2, ![4096, 1024]⟩ : Shape).Idx → EReal) (x13 : (⟨1, ![1024]⟩ : Shape).Idx → EReal)
  (b : Fin 16) (s : Fin 2048)

include G in
theorem gated_at (h : Fin 4) (e : Fin 128) : x5 (ix4 b s h e) * val_main_v52 (F := Ideal) x2 x3 x4 x6 x7 (ix4 b h s e) =
    ((gh (R.f b.val h) (R.i b.val h) (R.v b.val h) (R.o b.val h) (R.k b.val h) (R.q b.val h) s.val e : ℝ) : EReal) := by
  rw [G.o, v52_at G b h s e, ← EReal.coe_mul]
  congr 1
  unfold gh
  rw [mul_assoc]

include G in
/-- A head's normalized output. -/
theorem v96_at (h : Fin 4) (e : Fin 128) : val_main_v96 (F := Ideal) x2 x3 x4 x5 x6 x7 x8 (ix4 b s h e) =
    mixv (R.f b.val h) (R.i b.val h) (R.v b.val h) (R.o b.val h) (R.k b.val h) (R.q b.val h) s.val e
      * x8 (ix1 ⟨h.val * 128 + e.val, by omega⟩) := by
  have z5 : val_main_cst_5 (F := Ideal) (Shape.Idx.first h_S_) = 0 := Ideal.ofBits_zero_f32
  have z6 : val_main_cst_6 (F := Ideal) ix0 = Ideal.ofBits FTy.f32 0x43000000#32 := rfl
  have z7 : val_main_cst_7 (F := Ideal) ix0 = Ideal.ofBits FTy.f32 0x358637BD#32 := rfl
  pointwise [val_main_v96, val_main_v95, val_main_v94, val_main_v93, val_main_v92, val_main_v91, val_main_v90, val_main_v89, val_main_v88,
    val_main_v87, val_main_v86, val_main_v85, val_main_v84, val_main_v83, val_main_v82, val_main_v81]
  simp only [z5, z6, z7, gated_at G b s, zero_add]
  rfl

include G in
/-- The residual row. -/
theorem v100_at (u : Fin 1024) : val_main_v100 (F := Ideal) x0 x1 x2 x3 x4 x5 x6 x7 x8 x9 (ix3 b s u) = x1Of R x0 x1 x8 x9 b s u := by
  pointwise [val_main_v100, val_main_v99, val_main_v98, val_main_v97]
  simp only [v96_at G x8 b s]
  unfold x1Of
  refine (add_assoc _ _ _).symm.trans (congrArg₂ (fun a b : EReal => a + b) rfl (Finset.sum_congr (M := EReal) rfl fun r _ => ?_))
  have e : (⟨r.val / 128 * 128 + r.val % 128, by omega⟩ : Fin 512) = r := Fin.ext (by simp only; omega)
  rw [e]

include G in
/-- The output row. -/
theorem v136_at (n : Fin 32768) (u : Fin 1024) : val_main_v136 (F := Ideal) x0 x1 x2 x3 x4 x5 x6 x7 x8 x9 x10 x11 x12 x13 (ix2 n u) =
    ffn (x1Of R x0 x1 x8 x9 (sq n) (pl n)) (fun u => x10 (ix1 u)) (fun u a => x11 (ix2 u a)) (fun a u => x12 (ix2 a u))
      (fun u => x13 (ix1 u)) u := by
  have z8 : val_main_cst_8 (F := Ideal) (Shape.Idx.first h_S_) = 0 := Ideal.ofBits_zero_f32
  have z9 : val_main_cst_9 (F := Ideal) ix0 = Ideal.ofBits FTy.f32 0x44800000#32 := rfl
  have z10 : val_main_cst_10 (F := Ideal) ix0 = Ideal.ofBits FTy.f32 0x358637BD#32 := rfl
  have z11 : val_main_cst_11 (F := Ideal) ix0 = 0 := Ideal.ofBits_zero_f32
  have z12 : val_main_cst_12 (F := Ideal) (Shape.Idx.first h_S_) = 0 := Ideal.ofBits_zero_f32
  have z13 : val_main_cst_13 (F := Ideal) ix0 = Ideal.ofBits FTy.f32 0x44800000#32 := rfl
  have z14 : val_main_cst_14 (F := Ideal) ix0 = Ideal.ofBits FTy.f32 0x358637BD#32 := rfl
  have e : ∀ b s u, val_main_v119 (F := Ideal) x0 x1 x2 x3 x4 x5 x6 x7 x8 x9 x10 x11 x12 (ix3 b s u) =
      x1Of R x0 x1 x8 x9 b s u + ∑ a : Fin 4096,
        hid (x1Of R x0 x1 x8 x9 b s) (fun u => x10 (ix1 u)) (fun u a => x11 (ix2 u a)) a
          * hid (x1Of R x0 x1 x8 x9 b s) (fun u => x10 (ix1 u)) (fun u a => x11 (ix2 u a)) a * x12 (ix2 a u) := by
    intro b s u
    pointwise [val_main_v119, val_main_v118, val_main_v117, val_main_v116, val_main_v115, val_main_v114, val_main_v113, val_main_v112,
      val_main_v111, val_main_v110, val_main_v109, val_main_v108, val_main_v107, val_main_v106, val_main_v105, val_main_v104,
      val_main_v103, val_main_v102, val_main_v101]
    simp only [z8, z9, z10, z11, zero_add, v100_at G x0 x1 x8 x9]
    rfl
  pointwise [val_main_v136, val_main_v132, val_main_v131, val_main_v130, val_main_v129, val_main_v128, val_main_v127, val_main_v126,
    val_main_v125, val_main_v124, val_main_v123, val_main_v122, val_main_v121, val_main_v120]
  simp only [z12, z13, z14, zero_add, e]
  rfl

/-! ## The other results -/

theorem v137_at (h : Fin 4) (d : Fin 64) : val_main_v137 (F := Ideal) x3 x6 x7 (ix4 b h 0 d) = val_main_v80 (F := Ideal) x3 x6 x7 (ix3 b h d) := by
  pointwise [val_main_v137]

theorem v135_at (h : Fin 4) (l : Fin 256) : val_main_v135 (F := Ideal) x6 x7 (ix3 b (hr h) l) = val_main_v54 (F := Ideal) x6 x7 (ix2 b h) := by
  unfold hr
  pointwise [val_main_v135, val_main_v134, val_main_v133]

end Cert.ReferenceIdeal.Read

end
-- ==== Proof.Equal.lean ====
module

public import proofs.«01_k».proof.Defs
public import proofs.«01_k».proof.Proof.Arrays
public import proofs.«01_k».proof.Proof.RefOut
public import proofs.«01_k».proof.Proof.Gen.ReferenceIdeal.Run
public import proofs.«01_k».proof.Proof.Gen.ReferenceIdeal.Read
public import Idealize.ShloMosaic.Lib.Claim

@[expose] public section

set_option maxRecDepth 16384

noncomputable section

/-! The kernel's results and the reference's are the same extended reals. -/

namespace Cert.Proof

open Idealize.ShloMosaic Idealize.SL.Sem Idealize.ShloMosaic.TcCoe
open Cert.Model Cert.KernelIdeal.Body

theorem facts_finite : Cert.Pre_finite.Facts := ⟨by decide, by decide, by decide⟩
theorem facts_rows : Cert.On_gate_rows.Facts := ⟨by decide, by decide, by decide, by decide⟩

/-! ## Finite numbers are real numbers -/

/-- A number whose absolute value is below plus infinity is a real number. -/
theorem real_of_finite (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  refine (EReal.coe_toReal ?_ ?_).symm
  · intro hx; subst hx; simp at hlt
  · intro hx; subst hx; simp at hlt

/-- The real numbers of the arguments, zero outside their ranges. -/
def realHeads (x2 x3 : (⟨4, ![16, 2048, 4, 64]⟩ : Shape).Idx → EReal) (x4 x5 : (⟨4, ![16, 2048, 4, 128]⟩ : Shape).Idx → EReal)
    (x6 x7 : (⟨3, ![16, 2048, 4]⟩ : Shape).Idx → EReal) : Heads where
  f b h s := if q : b < 16 ∧ s < 2048 then (x7 (ix3 ⟨b, q.1⟩ ⟨s, q.2⟩ h)).toReal else 0
  i b h s := if q : b < 16 ∧ s < 2048 then (x6 (ix3 ⟨b, q.1⟩ ⟨s, q.2⟩ h)).toReal else 0
  q b h s d := if q : b < 16 ∧ s < 2048 then (x2 (ix4 ⟨b, q.1⟩ ⟨s, q.2⟩ h d)).toReal else 0
  k b h s d := if q : b < 16 ∧ s < 2048 then (x3 (ix4 ⟨b, q.1⟩ ⟨s, q.2⟩ h d)).toReal else 0
  v b h s d := if q : b < 16 ∧ s < 2048 then (x4 (ix4 ⟨b, q.1⟩ ⟨s, q.2⟩ h d)).toReal else 0
  o b h s d := if q : b < 16 ∧ s < 2048 then (x5 (ix4 ⟨b, q.1⟩ ⟨s, q.2⟩ h d)).toReal else 0

section Finite
variable [Cert.Pre_finite.Facts]
variable (m : (ℓ : Loc Cert.KernelIdeal.nD Cert.KernelIdeal.τ Cert.KernelIdeal.sig) → Buf (Elt Ideal) ℓ)

/-- What the kernel's buffer `b` holds. -/
abbrev K (c : Dev Cert.KernelIdeal.nD) (b : Ref Cert.KernelIdeal.sig .tc) := m ((c.tc : Thread Cert.KernelIdeal.nD Cert.KernelIdeal.τ).loc b)

/-- Finite arguments hold real numbers. -/
theorem given_of_finite (c : Dev Cert.KernelIdeal.nD) (hP : Cert.Pre_KernelIdeal_finite m) :
    Given m c (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)) := by
  obtain ⟨p2, p3, p4, p5, p6, p7⟩ := hP c
  constructor
  · intro b s h d
    have e : (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)).q b.val h s.val d = (K m c Cert.KernelIdeal.main_arg2 (ix4 b s h d)).toReal := dif_pos ⟨b.isLt, s.isLt⟩
    rw [e]; exact real_of_finite _ (congrFun p2 (ix4 b s h d))
  · intro b s h d
    have e : (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)).k b.val h s.val d = (K m c Cert.KernelIdeal.main_arg3 (ix4 b s h d)).toReal := dif_pos ⟨b.isLt, s.isLt⟩
    rw [e]; exact real_of_finite _ (congrFun p3 (ix4 b s h d))
  · intro b s h d
    have e : (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)).v b.val h s.val d = (K m c Cert.KernelIdeal.main_arg4 (ix4 b s h d)).toReal := dif_pos ⟨b.isLt, s.isLt⟩
    rw [e]; exact real_of_finite _ (congrFun p4 (ix4 b s h d))
  · intro b s h d
    have e : (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)).o b.val h s.val d = (K m c Cert.KernelIdeal.main_arg5 (ix4 b s h d)).toReal := dif_pos ⟨b.isLt, s.isLt⟩
    rw [e]; exact real_of_finite _ (congrFun p5 (ix4 b s h d))
  · intro b s h
    have e : (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)).i b.val h s.val = (K m c Cert.KernelIdeal.main_arg6 (ix3 b s h)).toReal := dif_pos ⟨b.isLt, s.isLt⟩
    rw [e]; exact real_of_finite _ (congrFun p6 (ix3 b s h))
  · intro b s h
    have e : (realHeads (K m c Cert.KernelIdeal.main_arg2) (K m c Cert.KernelIdeal.main_arg3) (K m c Cert.KernelIdeal.main_arg4) (K m c Cert.KernelIdeal.main_arg5) (K m c Cert.KernelIdeal.main_arg6) (K m c Cert.KernelIdeal.main_arg7)).f b.val h s.val = (K m c Cert.KernelIdeal.main_arg7 (ix3 b s h)).toReal := dif_pos ⟨b.isLt, s.isLt⟩
    rw [e]; exact real_of_finite _ (congrFun p7 (ix3 b s h))

end Finite

/-! ## The reference's results at the arguments -/

section Reference
open Cert.ReferenceIdeal Cert.ReferenceIdeal.Gen Cert.ReferenceIdeal.Read

variable (m : (ℓ : Loc nD τ sig) → Buf (Elt Ideal) ℓ) (ρ : Dev nD → PrngReg)

/-- The reference's run, its results as the stages of the arguments. -/
theorem ref_run : θ_run defs (onTc (τ := τ) (main (F := Ideal))) ⟨m, fun _ => 0, ρ⟩ fun r => ∀ c : Dev nD,
      r.2.mem ((c.tc : Thread nD τ).loc main_v136) = val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v75) = val_main_v75 (F := Ideal) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_v137) = val_main_v137 (F := Ideal) (m ((c.tc : Thread nD τ).loc main_arg3)) (m ((c.tc : Thread nD τ).loc main_arg6)) (m ((c.tc : Thread nD τ).loc main_arg7))
      ∧ r.2.mem ((c.tc : Thread nD τ).loc main_v135) = val_main_v135 (F := Ideal) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (val_main_v136_eq (Idealize.ShloMosaic.StableHlo.launchContents m c)),
      (h c).2.1.trans (val_main_v75_eq (Idealize.ShloMosaic.StableHlo.launchContents m c)),
      (h c).2.2.1.trans (val_main_v137_eq (Idealize.ShloMosaic.StableHlo.launchContents m c)),
      (h c).2.2.2.1.trans (val_main_v135_eq (Idealize.ShloMosaic.StableHlo.launchContents m c)), (h c).2.2.2.2⟩)
    (Cert.ReferenceIdeal.Value.run (F := Ideal) m ρ)

end Reference

/-! ## The results agree -/

section Agree
open Cert.KernelIdeal Cert.ReferenceIdeal.Read

variable {m : (ℓ : Loc nD τ sig) → Buf (Elt Ideal) ℓ} {c : Dev nD} {R : Heads} (G : Given m c R)
include G

theorem y_agree (i : (⟨2, ![32768, 1024]⟩ : Shape).Idx) : val_main_v136 (F := Ideal) (K m c main_arg0) (K m c main_arg1) (K m c main_arg2) (K m c main_arg3) (K m c main_arg4) (K m c main_arg5) (K m c main_arg6) (K m c main_arg7) (K m c main_arg8) (K m c main_arg9) (K m c main_arg10) (K m c main_arg11) (K m c main_arg12) (K m c main_arg13) i = (dats m 0 c).arrAt 14 cfg0.N i := by
  rw [eq_ix2 i]
  exact (v136_at G _ _ _ _ _ _ _ _ (i 0) (i 1)).trans (y_final G (i 0) (i 1)).symm

theorem C_agree (i : (⟨4, ![16, 4, 64, 128]⟩ : Shape).Idx) : val_main_v75 (F := Ideal) (K m c main_arg3) (K m c main_arg4) (K m c main_arg6) (K m c main_arg7) i = (dats m 0 c).arrAt 15 cfg0.N i := by
  rw [eq_ix4 i]
  exact (v75_at G (i 0) (i 1) (i 2) (i 3)).trans (C_final G (i 0) (i 1) (i 2) (i 3)).symm

theorem n_agree (i : (⟨4, ![16, 4, 1, 64]⟩ : Shape).Idx) : val_main_v137 (F := Ideal) (K m c main_arg3) (K m c main_arg6) (K m c main_arg7) i = (dats m 0 c).arrAt 16 cfg0.N i := by
  have h0 : i 2 = (0 : Fin 1) := Subsingleton.elim (α := Fin 1) _ _
  rw [eq_ix4 i, h0]
  exact (v137_at (i 0) (i 1) (i 3)).trans ((v80_at G (i 0) (i 1) (i 3)).trans (n_final G (i 0) (i 1) (i 3)).symm)

theorem m_agree (i : (⟨3, ![16, 8, 256]⟩ : Shape).Idx) (hi : 4 ≤ (i 1).val) : val_main_v135 (F := Ideal) (K m c main_arg6) (K m c main_arg7) i = (dats m 0 c).arrAt 17 cfg0.N i := by
  have h8 : (i 1).val < 8 := (i 1).isLt
  have h1 : i 1 = hr ⟨(i 1).val - 4, by omega⟩ := Fin.ext (show (i 1).val = 4 + ((i 1).val - 4) by omega)
  rw [eq_ix3 i, h1]
  exact (v135_at (i 0) _ (i 2)).trans ((v54_at G (i 0) _).trans (m_final G (i 0) _ (i 2)).symm)

end Agree

/-- A row the mask selects is one of the last four. -/
theorem row_of_mask (r : ℕ) (hr : r < 8) (h : IntOp.cmpi .sge (BitVec.ofNat 32 r) 4#32 = 1#1) : 4 ≤ r := by
  have key : ∀ r < 8, IntOp.cmpi .sge (BitVec.ofNat 32 r) 4#32 = 1#1 → 4 ≤ r := by decide
  exact key r hr h

instance : Cert.Pre_finite.Facts := facts_finite
instance : Cert.On_gate_rows.Facts := facts_rows

theorem algebraic : Cert.algebraic_KernelIdeal_ReferenceIdeal_on_gate_rows_pre_finite := by
  intro m g m' g' hP hagree
  refine ⟨fun c => (dats m 0 c).arrAt 14 Cert.KernelIdeal.cfg0.N, fun c => (dats m 0 c).arrAt 15 Cert.KernelIdeal.cfg0.N,
    fun c => (dats m 0 c).arrAt 16 Cert.KernelIdeal.cfg0.N, fun c => (dats m 0 c).arrAt 17 Cert.KernelIdeal.cfg0.N, ?_, ?_⟩
  · refine (θ_run Cert.KernelIdeal.defs _ _).mono (fun _ h c => ⟨fun i _ => congrFun ((h.1 c).1 14) i, fun i _ => congrFun ((h.1 c).1 15) i,
      fun i _ => congrFun ((h.1 c).1 16) i, fun i _ => congrFun ((h.1 c).1 17) i, h.2 c⟩) (θ_run_and (run_main m g) (unchanged m g))
  · refine (θ_run Cert.ReferenceIdeal.defs _ _).mono (fun r h c => ?_) (ref_run m' g')
    have G := given_of_finite m c hP
    obtain ⟨hy, hC, hn, hm, hargs⟩ := h c
    obtain ⟨e0, e1, e2, e3, e4, e5, e6, e7, e8, e9, e10, e11, e12, e13⟩ := hagree c
    rw [e0, e1, e2, e3, e4, e5, e6, e7, e8, e9, e10, e11, e12, e13] at hy
    rw [e3, e4, e6, e7] at hC
    rw [e3, e6, e7] at hn
    rw [e6, e7] at hm
    exact ⟨fun i _ => (congrFun hy i).trans (y_agree G i), fun i _ => (congrFun hC i).trans (C_agree G i),
      fun i _ => (congrFun hn i).trans (n_agree G i),
      fun i hi => (congrFun hm i).trans (m_agree G i (row_of_mask _ (i 1).isLt hi)), hargs⟩

end Cert.Proof

end
-- ==== Proof.Sample2.lean ====
module

public import proofs.«01_k».proof.Proof.Row
public import proofs.«01_k».proof.Proof.Gen.Kernel2Ideal.Value
public import Idealize.ShloMosaic.Lib.StableHlo.ReadAt
public import Idealize.ShloMosaic.Lib.Pipeline.ValueKit
public import Idealize.ShloMosaic.Lib.Pipeline.ValueKit.Point

@[expose] public section

set_option maxRecDepth 16384

noncomputable section

namespace Cert.Kernel2Ideal.Body

open Cert.Kernel2Ideal Cert.Kernel2Ideal.Gen Cert.Model
open Idealize.ShloMosaic Idealize.ShloMosaic.TcCoe Idealize.ShloMosaic.Tactic
open scoped BigOperators

/-! The output projection and the feed-forward layer of the new positions: what the kernel leaves, row by row. -/

section Rows
variable (x0 : Vec Ideal S512x1024 .f32) (x1 x2 : Vec Ideal S512x512 .bf16) (x3 x4 : Vec Ideal S512x1024 .bf16)
  (x5 : Vec Ideal S1x1024 .f32) (x6 : Vec Ideal S1024x4096 .bf16) (x7 : Vec Ideal S4096x1024 .bf16) (x8 : Vec Ideal S1x1024 .f32)
  (l : Fin 512) (w : Fin 1024)

theorem resid_read : k0_pay2 (F := Ideal) x0 x1 x3 x2 x4 (ix2 l w) =
    x0 (ix2 l w) + ∑ r : Fin 512, x1 (ix2 l r) * x3 (ix2 r w) + ∑ r : Fin 512, x2 (ix2 l r) * x4 (ix2 r w) := by
  pointwise [k0_pay2]

theorem row_read (x : FVec Ideal S512x1024 .f32) (hx : x = k0_pay2 x0 x1 x3 x2 x4) :
    k0_pay1 (F := Ideal) x (k0_pay3 x0 x1 x3 x2 x4 x5 x6) x7 x8 (ix2 l w) =
      ffn (fun u => x (ix2 l u)) (fun u => x5 (ix2 0 u)) (fun u a => x6 (ix2 u a)) (fun a u => x7 (ix2 a u)) (fun u => x8 (ix2 0 u)) w := by
  unfold k0_pay3
  rw [← hx]
  clear hx
  pointwise [k0_pay1, ffn, hid, rmsOf]

theorem out_read : out0_9 (F := Ideal) x0 x1 x2 x3 x4 x5 x6 x7 x8 (ix2 l w) =
    ffn (fun u => x0 (ix2 l u) + ∑ r : Fin 512, x1 (ix2 l r) * x3 (ix2 r u) + ∑ r : Fin 512, x2 (ix2 l r) * x4 (ix2 r u))
      (fun u => x5 (ix2 0 u)) (fun u a => x6 (ix2 u a)) (fun a u => x7 (ix2 a u)) (fun u => x8 (ix2 0 u)) w := by
  unfold out0_9
  rw [View.canon_unit_zero (by decide), View.ld_unit_zero (by decide) _ x0, View.ld_unit_zero (by decide) _ x1, View.ld_unit_zero (by decide) _ x2,
    View.ld_unit_zero (by decide) _ x3, View.ld_unit_zero (by decide) _ x4, View.ld_unit_zero (by decide) _ x5,
    View.ld_unit_zero (by decide) _ x6, View.ld_unit_zero (by decide) _ x7, View.ld_unit_zero (by decide) _ x8]
  refine (row_read _ _ _ _ _ _ _ _ _ l w _ rfl).trans ?_
  simp only [resid_read]
end Rows

variable (m : (ℓ : Loc nD τ sig) → Buf (Elt Ideal) ℓ) (c : Dev nD)

/-- A position's sequence. -/
def sq (n : Fin 1024) : Fin 128 := ⟨n.val / 8, by omega⟩
/-- A position's place in its sequence. -/
def pl (n : Fin 1024) : Fin 8 := ⟨n.val % 8, by omega⟩

section Arrays
variable (n : Fin 1024)

theorem V_x (w : Fin 1024) : V m c main_v0 (ix2 n w) = m ((c : Thread nD τ).loc main_arg0) (ix3 (sq n) (pl n) w) := by
  unfold V
  after_reads_at
  rfl
theorem V_a (r : Fin 512) : V m c main_v2 (ix2 n r) = m ((c : Thread nD τ).loc main_arg1) (ix3 (sq n) (pl n) r) := by
  unfold V
  after_reads_at
  rfl
theorem V_h (r : Fin 512) : V m c main_v4 (ix2 n r) = m ((c : Thread nD τ).loc main_arg2) (ix3 (sq n) (pl n) r) := by
  unfold V
  after_reads_at
  rfl
theorem V_woa (r : Fin 512) (w : Fin 1024) : V m c main_v6 (ix2 r w) = m ((c : Thread nD τ).loc main_arg3) (ix2 ⟨r.val, by omega⟩ w) := by
  unfold V
  after_reads_at
theorem V_wom (r : Fin 512) (w : Fin 1024) : V m c main_v8 (ix2 r w) = m ((c : Thread nD τ).loc main_arg3) (ix2 ⟨512 + r.val, by omega⟩ w) := by
  unfold V
  after_reads_at
theorem V_g1 (w : Fin 1024) : V m c main_v9 (ix2 0 w) = m ((c : Thread nD τ).loc main_arg4) (ix1 w) := by
  unfold V
  after_reads_at
theorem V_up (a : Fin 1024) (w : Fin 4096) : V m c main_v10 (ix2 a w) = m ((c : Thread nD τ).loc main_arg5) (ix2 a w) := by
  unfold V
  after_reads_at
theorem V_dn (a : Fin 4096) (w : Fin 1024) : V m c main_v11 (ix2 a w) = m ((c : Thread nD τ).loc main_arg6) (ix2 a w) := by
  unfold V
  after_reads_at
theorem V_g2 (w : Fin 1024) : V m c main_v12 (ix2 0 w) = m ((c : Thread nD τ).loc main_arg7) (ix1 w) := by
  unfold V
  after_reads_at
end Arrays

/-! ## The blocks the points read -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = t.val ∧ win0_9.index t 1 = 0 := by decide +kernel

section Blocks
variable (t : Fin cfg0.N) (l : Fin 512)

/-- The position of row `l` of point `t`. -/
def pos : Fin 1024 := ⟨512 * t.val + l.val, by have : t.val < 2 := t.isLt; omega⟩

theorem blk_x (w : Fin 1024) : iblk m c 0 t (ix2 l w) = V m c main_v0 (ix2 (pos t l) w) := by
  unfold pos; blk_ext [iblk, V, idx0 t]
theorem blk_a (r : Fin 512) : iblk m c 1 t (ix2 l r) = V m c main_v2 (ix2 (pos t l) r) := by
  unfold pos; blk_ext [iblk, V, idx1 t]
theorem blk_h (r : Fin 512) : iblk m c 2 t (ix2 l r) = V m c main_v4 (ix2 (pos t l) r) := by
  unfold pos; blk_ext [iblk, V, idx2 t]
theorem blk_woa (r : Fin 512) (w : Fin 1024) : iblk m c 3 t (ix2 r w) = V m c main_v6 (ix2 r w) := by
  blk_ext [iblk, V, idx3 t]
theorem blk_wom (r : Fin 512) (w : Fin 1024) : iblk m c 4 t (ix2 r w) = V m c main_v8 (ix2 r w) := by
  blk_ext [iblk, V, idx4 t]
theorem blk_g1 (r : Fin 1) (w : Fin 1024) : iblk m c 5 t (ix2 r w) = V m c main_v9 (ix2 r w) := by
  blk_ext [iblk, V, idx5 t]
theorem blk_up (r : Fin 1024) (w : Fin 4096) : iblk m c 6 t (ix2 r w) = V m c main_v10 (ix2 r w) := by
  blk_ext [iblk, V, idx6 t]
theorem blk_dn (r : Fin 4096) (w : Fin 1024) : iblk m c 7 t (ix2 r w) = V m c main_v11 (ix2 r w) := by
  blk_ext [iblk, V, idx7 t]
theorem blk_g2 (r : Fin 1) (w : Fin 1024) : iblk m c 8 t (ix2 r w) = V m c main_v12 (ix2 r w) := by
  blk_ext [iblk, V, idx8 t]
end Blocks

/-! ## The result -/

/-- A new position's residual row. -/
def rowOf (A0 : (⟨3, ![128, 8, 1024]⟩ : Shape).Idx → EReal) (A1 A2 : (⟨3, ![128, 8, 512]⟩ : Shape).Idx → EReal)
    (A3 : (⟨2, ![1024, 1024]⟩ : Shape).Idx → EReal) (b : Fin 128) (s : Fin 8) (u : Fin 1024) : EReal :=
  A0 (ix3 b s u) + ∑ r : Fin 512, A1 (ix3 b s r) * A3 (ix2 ⟨r.val, by omega⟩ u) +
    ∑ r : Fin 512, A2 (ix3 b s r) * A3 (ix2 ⟨512 + r.val, by omega⟩ u)

/-- What the array of results holds at a row of the new positions. -/
def yOf (n w : Fin 1024) : EReal :=
  ffn (rowOf (m ((c : Thread nD τ).loc main_arg0)) (m ((c : Thread nD τ).loc main_arg1)) (m ((c : Thread nD τ).loc main_arg2))
      (m ((c : Thread nD τ).loc main_arg3)) (sq n) (pl n))
    (fun u => m ((c : Thread nD τ).loc main_arg4) (ix1 u)) (fun u a => m ((c : Thread nD τ).loc main_arg5) (ix2 u a))
    (fun a u => m ((c : Thread nD τ).loc main_arg6) (ix2 a u)) (fun u => m ((c : Thread nD τ).loc main_arg7) (ix1 u)) w

theorem y_of (t : Fin cfg0.N) (l : Fin 512) (w : Fin 1024)
    (x0 : Vec Ideal S512x1024 .f32) (x1 x2 : Vec Ideal S512x512 .bf16) (x3 x4 : Vec Ideal S512x1024 .bf16)
    (x5 : Vec Ideal S1x1024 .f32) (x6 : Vec Ideal S1024x4096 .bf16) (x7 : Vec Ideal S4096x1024 .bf16) (x8 : Vec Ideal S1x1024 .f32)
    (h0 : ∀ u, x0 (ix2 l u) = V m c main_v0 (ix2 (pos t l) u)) (h1 : ∀ r, x1 (ix2 l r) = V m c main_v2 (ix2 (pos t l) r))
    (h2 : ∀ r, x2 (ix2 l r) = V m c main_v4 (ix2 (pos t l) r)) (h3 : ∀ r u, x3 (ix2 r u) = V m c main_v6 (ix2 r u))
    (h4 : ∀ r u, x4 (ix2 r u) = V m c main_v8 (ix2 r u)) (h5 : ∀ u, x5 (ix2 0 u) = V m c main_v9 (ix2 0 u))
    (h6 : ∀ u a, x6 (ix2 u a) = V m c main_v10 (ix2 u a)) (h7 : ∀ a u, x7 (ix2 a u) = V m c main_v11 (ix2 a u))
    (h8 : ∀ u, x8 (ix2 0 u) = V m c main_v12 (ix2 0 u)) :
    out0_9 (F := Ideal) x0 x1 x2 x3 x4 x5 x6 x7 x8 (ix2 l w) = yOf m c (pos t l) w := by
  refine (out_read _ _ _ _ _ _ _ _ _ l w).trans ?_
  unfold yOf
  congr 1
  · funext u
    unfold rowOf
    exact congrArg₂ (fun a b : EReal => a + b) (congrArg₂ (fun a b : EReal => a + b) ((h0 u).trans (V_x m c _ u))
      (Finset.sum_congr (M := EReal) rfl fun r _ => congrArg₂ (fun a b : EReal => a * b) ((h1 r).trans (V_a m c _ r)) ((h3 r u).trans (V_woa m c r u))))
      (Finset.sum_congr (M := EReal) rfl fun r _ => congrArg₂ (fun a b : EReal => a * b) ((h2 r).trans (V_h m c _ r)) ((h4 r u).trans (V_wom m c r u)))
  · funext u
    exact (h5 u).trans (V_g1 m c u)
  · funext u a
    exact (h6 u a).trans (V_up m c u a)
  · funext a u
    exact (h7 a u).trans (V_dn m c a u)
  · funext u
    exact (h8 u).trans (V_g2 m c u)

/-- The block point `t` writes back. -/
@[irreducible] def outAt (t : Fin cfg0.N) : Vec Ideal S512x1024 .f32 :=
  out0_9 (iblk m c 0 t) (iblk m c 1 t) (iblk m c 2 t) (iblk m c 3 t) (iblk m c 4 t) (iblk m c 5 t) (iblk m c 6 t) (iblk m c 7 t) (iblk m c 8 t)

theorem after_out (t : Fin cfg0.N) : (dats m 0 c).after 9 t = outAt m c t := by unfold outAt; exact after0_9 m c t

theorem y_at (t : Fin cfg0.N) (l : Fin 512) (w : Fin 1024) : outAt m c t (ix2 l w) = yOf m c (pos t l) w := by
  unfold outAt
  exact y_of m c t l w _ _ _ _ _ _ _ _ _ (blk_x m c t l) (blk_a m c t l) (blk_h m c t l) (blk_woa m c t) (blk_wom m c t)
    (blk_g1 m c t 0) (blk_up m c t) (blk_dn m c t) (blk_g2 m c t 0)

/-- The point that writes row `n` back. -/
def pt (n : Fin 1024) : Fin cfg0.N := ⟨n.val / 512, by show n.val / 512 < 2; omega⟩

theorem outAt_congr {t t' : Fin cfg0.N} (y : S512x1024.Idx) (a : Fin 512) (b : Fin 1024) (ht : t.val = t'.val)
    (ha : (y 0).val = a.val) (hb : (y 1).val = b.val) : outAt m c t y = outAt m c t' (ix2 a b) := by
  obtain rfl : t = t' := Fin.ext ht
  refine congrArg (outAt m c t) (funext fun k => ?_)
  fin_cases k
  · exact Fin.ext ha
  · exact Fin.ext hb

theorem y_array : (dats m 0 c).arrAt 9 cfg0.N =
    fun i : S1024x1024.Idx => outAt m c (pt (i 0)) (ix2 ⟨(i 0).val % 512, by omega⟩ (i 1)) := by
  refine (dats m 0 c).arrAt_eq_of_covers 9 _ (by decide +kernel) fun t hf y => ?_
  have hy : (y 0).val < 512 := (y 0).isLt
  have e0 : (((cfg0.win 9).blk t).view.emb y 0 : ℕ) = t.val * 512 + (y 0).val := by
    blk_simp [(idx9 t).1]
  have e1 : (((cfg0.win 9).blk t).view.emb y 1 : ℕ) = (y 1).val := by
    blk_simp [(idx9 t).2]
  rw [after_out]
  refine outAt_congr m c y _ _ ?_ ?_ e1.symm
  · show _ = (((cfg0.win 9).blk t).view.emb y 0 : ℕ) / 512
    rw [e0]; omega
  · show _ = (((cfg0.win 9).blk t).view.emb y 0 : ℕ) % 512
    rw [e0]; omega

theorem y_final (n w : Fin 1024) : (dats m 0 c).arrAt 9 cfg0.N (ix2 n w) = yOf m c n w := by
  rw [y_array]
  refine (y_at m c (pt n) ⟨n.val % 512, by omega⟩ w).trans (congrArg (fun n => yOf m c n w) (Fin.ext ?_))
  show 512 * (n.val / 512) + n.val % 512 = n.val
  omega

end Cert.Kernel2Ideal.Body

end
-- ==== Proof.Equal2.lean ====
module

public import proofs.«01_k».proof.Proof.Sample2
public import proofs.«01_k».proof.Proof.Gen.Reference2Ideal.Read
public import proofs.«01_k».proof.Defs

@[expose] public section

set_option maxRecDepth 16384

noncomputable section

namespace Cert.Reference2Ideal.Read

open Cert.Reference2Ideal.Gen
open Idealize.ShloMosaic Cert.Model Cert.Kernel2Ideal.Body
open scoped BigOperators

/-! The reference's output projection and feed-forward layer of the new positions, and the equality of the results. -/

variable (x0 : (⟨3, ![128, 8, 1024]⟩ : Shape).Idx → EReal) (x1 x2 : (⟨3, ![128, 8, 512]⟩ : Shape).Idx → EReal)
  (x3 : (⟨2, ![1024, 1024]⟩ : Shape).Idx → EReal) (x4 : (⟨1, ![1024]⟩ : Shape).Idx → EReal)
  (x5 : (⟨2, ![1024, 4096]⟩ : Shape).Idx → EReal) (x6 : (⟨2, ![4096, 1024]⟩ : Shape).Idx → EReal)
  (x7 : (⟨1, ![1024]⟩ : Shape).Idx → EReal)

/-- The residual row. -/
theorem v2_at (b : Fin 128) (s : Fin 8) (u : Fin 1024) :
    val_main_v2 (F := Ideal) x0 x1 x2 x3 (ix3 b s u) = rowOf x0 x1 x2 x3 b s u := by
  pointwise [val_main_v2, val_main_v1, val_main_v0]
  unfold rowOf
  exact (add_assoc _ _ _).symm

/-- The row with the feed-forward part added. -/
theorem v21_at (b : Fin 128) (s : Fin 8) (u : Fin 1024) : val_main_v21 (F := Ideal) x0 x1 x2 x3 x4 x5 x6 (ix3 b s u) =
    rowOf x0 x1 x2 x3 b s u + ∑ a : Fin 4096,
      hid (rowOf x0 x1 x2 x3 b s) (fun u => x4 (ix1 u)) (fun u a => x5 (ix2 u a)) a
        * hid (rowOf x0 x1 x2 x3 b s) (fun u => x4 (ix1 u)) (fun u a => x5 (ix2 u a)) a * x6 (ix2 a u) := by
  have z : val_main_cst (F := Ideal) (Shape.Idx.first h_S_) = 0 := Ideal.ofBits_zero_f32
  have z0 : val_main_cst_0 (F := Ideal) ix0 = Ideal.ofBits FTy.f32 0x44800000#32 := rfl
  have z1 : val_main_cst_1 (F := Ideal) ix0 = Ideal.ofBits FTy.f32 0x358637BD#32 := rfl
  have z2 : val_main_cst_2 (F := Ideal) ix0 = 0 := Ideal.ofBits_zero_f32
  pointwise [val_main_v21, val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3]
  simp only [z, z0, z1, z2, zero_add, v2_at]
  rfl

/-- The output row. -/
theorem v35_at (n u : Fin 1024) : val_main_v35 (F := Ideal) x0 x1 x2 x3 x4 x5 x6 x7 (ix2 n u) =
    ffn (rowOf x0 x1 x2 x3 (sq n) (pl n)) (fun u => x4 (ix1 u)) (fun u a => x5 (ix2 u a)) (fun a u => x6 (ix2 a u))
      (fun u => x7 (ix1 u)) u := by
  have z3 : val_main_cst_3 (F := Ideal) (Shape.Idx.first h_S_) = 0 := Ideal.ofBits_zero_f32
  have z4 : val_main_cst_4 (F := Ideal) ix0 = Ideal.ofBits FTy.f32 0x44800000#32 := rfl
  have z5 : val_main_cst_5 (F := Ideal) ix0 = Ideal.ofBits FTy.f32 0x358637BD#32 := rfl
  pointwise [val_main_v35, val_main_v34, val_main_v33, val_main_v32, val_main_v31, val_main_v30, val_main_v29, val_main_v28,
    val_main_v27, val_main_v26, val_main_v25, val_main_v24, val_main_v23, val_main_v22]
  simp only [z3, z4, z5, zero_add, v21_at]
  rfl

end Cert.Reference2Ideal.Read

namespace Cert.Proof

open Idealize.ShloMosaic Idealize.ShloMosaic.TcCoe Idealize.SL.Sem

section Reference
open Cert.Reference2Ideal Cert.Reference2Ideal.Gen Cert.Reference2Ideal.Read
variable (m : (ℓ : Loc nD τ sig) → Buf (Elt Ideal) ℓ) (ρ : Dev nD → PrngReg)

/-- The reference's run, its result as a stage of the arguments. -/
theorem ref_run2 : θ_run defs (onTc (τ := τ) (main (F := Ideal))) ⟨m, fun _ => 0, ρ⟩ fun r => ∀ c : Dev nD,
      r.2.mem ((c.tc : Thread nD τ).loc main_v35) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v35_eq m c), (h c).2⟩)
    (Cert.Reference2Ideal.Value.run (F := Ideal) m ρ)

end Reference

section Agree
open Cert.Kernel2Ideal Cert.Kernel2Ideal.Gen Cert.Kernel2Ideal.Body Cert.Reference2Ideal.Read
variable (m : (ℓ : Loc nD τ sig) → Buf (Elt Ideal) ℓ) (c : Dev nD)

theorem y_agree2 (i : (⟨2, ![1024, 1024]⟩ : Shape).Idx) : val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) i = (dats m 0 c).arrAt 9 cfg0.N i := by
  rw [eq_ix2 i]
  exact (v35_at _ _ _ _ _ _ _ _ (i 0) (i 1)).trans (y_final m c (i 0) (i 1)).symm

end Agree

theorem algebraic2 : Cert.algebraic_Kernel2Ideal_Reference2Ideal := by
  intro m g m' g' hP hagree
  refine ⟨fun c => (Cert.Kernel2Ideal.Gen.dats m 0 c).arrAt 9 Cert.Kernel2Ideal.cfg0.N, Cert.Kernel2Ideal.Value.run_blocks m g, ?_⟩
  refine (θ_run Cert.Reference2Ideal.defs _ _).mono (fun r h c => ?_) (ref_run2 m' g')
  obtain ⟨hy, hargs⟩ := h c
  obtain ⟨e0, e1, e2, e3, e4, e5, e6, e7⟩ := hagree c
  rw [e0, e1, e2, e3, e4, e5, e6, e7] at hy
  exact ⟨funext fun i => (congrFun hy i).trans (y_agree2 m c i), hargs⟩

end Cert.Proof

end
-- ==== Proof.Sample3.lean ====
module

public import proofs.«01_k».proof.Proof.Gen.Kernel3Ideal.Value
public import Idealize.ShloMosaic.Lib.Pointwise
public import Idealize.ShloMosaic.Lib.StableHlo.ReadAt
public import Idealize.ShloMosaic.Lib.WholeRead
public import Idealize.ShloMosaic.Lib.Pipeline.ValueKit
public import Idealize.ShloMosaic.Lib.Pipeline.ValueKit.Point

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic

/-! The windows of keys and values after the new positions: what the kernel leaves. -/

/-- A window moved on by eight positions: the old rows from the eighth on, then the new rows. -/
def moved (old : Vec Ideal S16x128x128 .f32) (new : Vec Ideal S128x128 .f32) : Vec Ideal S16x128x128 .f32 := fun i =>
  if h : 8 + (i 1).val < 128 then old (ix3 (i 0) ⟨8 + (i 1).val, h⟩ (i 2))
  else new (ix2 ⟨(i 0).val * 8 + (8 + (i 1).val - 128), by
    have h0 : (i 0).val < 16 := (i 0).isLt
    have h1 : (i 1).val < 128 := (i 1).isLt
    omega⟩ (i 2))

theorem moved_old (old : Vec Ideal S16x128x128 .f32) (new : Vec Ideal S128x128 .f32) (i : S16x128x128.Idx) (b : Fin 16) (s : Fin 120) (d : Fin 128)
    (h0 : (i 0).val = b.val) (h1 : (i 1).val = s.val) (h2 : (i 2).val = d.val) :
    moved old new i = old (ix3 b ⟨8 + s.val, by omega⟩ d) := by
  have e : i = ix3 b ⟨s.val, by omega⟩ d := by
    funext k
    fin_cases k
    · exact Fin.ext h0
    · exact Fin.ext h1
    · exact Fin.ext h2
  exact (congrArg (moved old new) e).trans (dif_pos (show 8 + s.val < 128 by omega))

theorem moved_new (old : Vec Ideal S16x128x128 .f32) (new : Vec Ideal S128x128 .f32) (i : S16x128x128.Idx) (b : Fin 16) (s : Fin 8) (d : Fin 128)
    (h0 : (i 0).val = b.val) (h1 : (i 1).val = 120 + s.val) (h2 : (i 2).val = d.val) :
    moved old new i = new (ix2 ⟨b.val * 8 + s.val, by omega⟩ d) := by
  have e : i = ix3 b ⟨120 + s.val, by omega⟩ d := by
    funext k
    fin_cases k
    · exact Fin.ext h0
    · exact Fin.ext h1
    · exact Fin.ext h2
  refine (congrArg (moved old new) e).trans ?_
  refine (dif_neg (show ¬8 + (120 + s.val) < 128 by omega)).trans (congrArg new (congrArg₂ ix2 (Fin.ext ?_) rfl))
  show b.val * 8 + (8 + (120 + s.val) - 128) = b.val * 8 + s.val
  omega

/-- An index of the window lies under one of the two stores. -/
theorem covered (p0 : FVec Ideal S16x8x128 .f32) (p1 : FVec Ideal S16x120x128 .f32) (y : S16x128x128.Idx) :
    ∃ p ∈ ([⟨Rect.unit ![0, 120, 0] ![16, 8, 128] inb_S16x128x128_S16x8x128_0_120_0, p0⟩,
        ⟨Rect.unit ![0, 0, 0] ![16, 120, 128] inb_S16x128x128_S16x120x128_0_0_0, p1⟩] : List (View.Piece (Elt Ideal) S16x128x128 .f32)),
      y ∈ p.1.set := by
  have h0 : (y 0).val < 16 := (y 0).isLt
  have h1 : (y 1).val < 128 := (y 1).isLt
  have h2 : (y 2).val < 128 := (y 2).isLt
  by_cases h : (y 1).val < 120
  · refine ⟨_, List.mem_cons_of_mem _ List.mem_cons_self, (Rect.mem_set_unit (inb := inb_S16x128x128_S16x120x128_0_0_0)).mpr fun a => ?_⟩
    fin_cases a
    · exact ⟨Nat.zero_le _, by show (y 0).val < 0 + 16; omega⟩
    · exact ⟨Nat.zero_le _, by show (y 1).val < 0 + 120; omega⟩
    · exact ⟨Nat.zero_le _, by show (y 2).val < 0 + 128; omega⟩
  · refine ⟨_, List.mem_cons_self, (Rect.mem_set_unit (inb := inb_S16x128x128_S16x8x128_0_120_0)).mpr fun a => ?_⟩
    fin_cases a
    · exact ⟨Nat.zero_le _, by show (y 0).val < 0 + 16; omega⟩
    · exact ⟨by show 120 ≤ (y 1).val; omega, by show (y 1).val < 120 + 8; omega⟩
    · exact ⟨Nat.zero_le _, by show (y 2).val < 0 + 128; omega⟩

section
variable (m : (ℓ : Loc nD τ sig) → Buf (Elt Ideal) ℓ) (c : Dev nD)

theorem idx_n : ∀ t : Fin cfg0.N, win0_1.index t 0 = t.val ∧ win0_1.index t 1 = 0 := by decide +kernel

theorem blk_n (t : Fin cfg0.N) (l : Fin 128) (u : Fin 256) : iblk m c 1 t (ix2 l u) =
    V m c main_v2 (ix2 ⟨128 * t.val + l.val, by have : t.val < 8 := t.isLt; omega⟩ u) := by
  blk_ext [iblk, V, idx_n t]

/-- The point that writes sequence `b` back. -/
def pt (b : Fin 128) : Fin cfg0.N := ⟨b.val / 16, by show b.val / 16 < 8; omega⟩
end

/-! ## The keys -/

theorem new_k (x : Vec Ideal S128x128 .f32) (b : Fin 16) (s : Fin 8) (d : Fin 128) :
    k0_pay5 x (ix3 b s d) = x (ix2 ⟨b.val * 8 + s.val, by omega⟩ d) := by
  pointwise [k0_pay5]

theorem old_k (x : Vec Ideal S16x128x128 .f32) (b : Fin 16) (s : Fin 120) (d : Fin 128) :
    k0_pay7 x (ix3 b s d) = x (ix3 b ⟨8 + s.val, by omega⟩ d) := by
  pointwise [k0_pay7, k0_pay3]

theorem stores_k (old : Vec Ideal S16x128x128 .f32) (new : Vec Ideal S128x128 .f32) :
    View.canon ([⟨Rect.unit ![0, 120, 0] ![16, 8, 128] inb_S16x128x128_S16x8x128_0_120_0, k0_pay5 new⟩,
        ⟨Rect.unit ![0, 0, 0] ![16, 120, 128] inb_S16x128x128_S16x120x128_0_0_0, k0_pay7 old⟩] : List (View.Piece (Elt Ideal) S16x128x128 .f32))
      = moved old new := by
  funext y
  refine View.canon_apply_of_pieces (moved old new) _ (fun p hp => ?_) y (covered _ _ y)
  simp only [List.mem_cons, List.not_mem_nil, or_false] at hp
  rcases hp with rfl | rfl
  · intro (x : S16x8x128.Idx)
    refine (congrArg (k0_pay5 new) (eq_ix3 x)).trans ((new_k new (x 0) (x 1) (x 2)).trans (moved_new old new _ (x 0) (x 1) (x 2) ?_ ?_ ?_).symm)
    · exact (ValueKit.rect_emb_unit_val _ _ inb_S16x128x128_S16x8x128_0_120_0 _ 0).trans (Nat.zero_add _)
    · exact ValueKit.rect_emb_unit_val _ _ inb_S16x128x128_S16x8x128_0_120_0 _ 1
    · exact (ValueKit.rect_emb_unit_val _ _ inb_S16x128x128_S16x8x128_0_120_0 _ 2).trans (Nat.zero_add _)
  · intro (x : S16x120x128.Idx)
    refine (congrArg (k0_pay7 old) (eq_ix3 x)).trans ((old_k old (x 0) (x 1) (x 2)).trans (moved_old old new _ (x 0) (x 1) (x 2) ?_ ?_ ?_).symm)
    · exact (ValueKit.rect_emb_unit_val _ _ inb_S16x128x128_S16x120x128_0_0_0 _ 0).trans (Nat.zero_add _)
    · exact (ValueKit.rect_emb_unit_val _ _ inb_S16x128x128_S16x120x128_0_0_0 _ 1).trans (Nat.zero_add _)
    · exact (ValueKit.rect_emb_unit_val _ _ inb_S16x128x128_S16x120x128_0_0_0 _ 2).trans (Nat.zero_add _)

section
variable (m : (ℓ : Loc nD τ sig) → Buf (Elt Ideal) ℓ) (c : Dev nD)

/-- The block of keys point `t` leaves. -/
@[irreducible] def out_k (t : Fin cfg0.N) : Vec Ideal S16x128x128 .f32 := (outsAt0 m c t).2.1

theorem after_k (t : Fin cfg0.N) : (dats m 0 c).after 16 t = out_k m c t := by unfold out_k; exact after0_16 m c t

theorem out_k_eq (t : Fin cfg0.N) : out_k m c t =
    moved (iblk m c 2 t) (fun x : S128x128.Idx => (iblk m c 1 t : Vec Ideal S128x256 .f32) (ix2 (x 0) ⟨0 + (x 1).val, by
      have h1 : (x 1).val < 128 := (x 1).isLt
      omega⟩)) := by
  unfold out_k outsAt0
  dsimp only
  unfold out0_A_16
  dsimp only [kernelRun0_A]
  rw [View.read_writes_junk_eq_canon]
  refine (stores_k _ _).trans (congrArg₂ moved ?_ ?_)
  · funext x
    rw [Memref.IsWhole.readAt_unread]
    refine congrArg (iblk m c 2 t) (funext fun k => Fin.ext ?_)
    fin_cases k
    · exact (ValueKit.rect_emb_unit_val _ _ _ _ 0).trans (Nat.zero_add _)
    · exact (ValueKit.rect_emb_unit_val _ _ _ _ 1).trans (Nat.zero_add _)
    · exact (ValueKit.rect_emb_unit_val _ _ _ _ 2).trans (Nat.zero_add _)
  · funext x
    rw [Memref.IsWhole.readAt_unread]
    refine congrArg (iblk m c 1 t) (funext fun k => Fin.ext ?_)
    fin_cases k
    · exact (ValueKit.rect_emb_unit_val _ _ _ _ 0).trans (Nat.zero_add _)
    · exact ValueKit.rect_emb_unit_val _ _ _ _ 1

theorem V_nk (n : Fin 1024) (d : Fin 128) : V m c main_v2 (ix2 n ⟨0 + d.val, by omega⟩) =
    m ((c : Thread nD τ).loc main_arg1) (ix4 ⟨n.val / 8, by omega⟩ ⟨n.val % 8, by omega⟩ ⟨d.val / 64, by omega⟩ ⟨d.val % 64, by omega⟩) := by
  unfold V
  after_reads_at

theorem V_ck (b s d : Fin 128) : V m c main_v17 (ix3 b s d) =
    m ((c : Thread nD τ).loc main_arg3) (ix4 b s ⟨d.val / 64, by omega⟩ ⟨d.val % 64, by omega⟩) := by
  unfold V
  after_reads_at

theorem idx_ck : ∀ t : Fin cfg0.N, win0_2.index t 0 = t.val ∧ win0_2.index t 1 = 0 ∧ win0_2.index t 2 = 0 := by decide +kernel
theorem idx_ok : ∀ t : Fin cfg0.N, win0_16.index t 0 = t.val ∧ win0_16.index t 1 = 0 ∧ win0_16.index t 2 = 0 := by decide +kernel

theorem blk_ck (t : Fin cfg0.N) (b : Fin 16) (s d : Fin 128) : iblk m c 2 t (ix3 b s d) =
    V m c main_v17 (ix3 ⟨16 * t.val + b.val, by have : t.val < 8 := t.isLt; omega⟩ s d) := by
  blk_ext [iblk, V, idx_ck t]

/-- What the window holds in the end. -/
def win_k (b s d : Fin 128) : EReal :=
  if h : 8 + s.val < 128 then m ((c : Thread nD τ).loc main_arg3) (ix4 b ⟨8 + s.val, h⟩ ⟨d.val / 64, by omega⟩ ⟨d.val % 64, by omega⟩)
  else m ((c : Thread nD τ).loc main_arg1) (ix4 b ⟨8 + s.val - 128, by omega⟩ ⟨d.val / 64, by omega⟩ ⟨d.val % 64, by omega⟩)

theorem out_k_at (t : Fin cfg0.N) (b : Fin 16) (s d : Fin 128) :
    out_k m c t (ix3 b s d) = win_k m c ⟨16 * t.val + b.val, by have : t.val < 8 := t.isLt; omega⟩ s d := by
  have ht : t.val < 8 := t.isLt
  rw [out_k_eq]
  unfold win_k
  by_cases h : 8 + s.val < 128
  · rw [dif_pos h]
    refine (moved_old _ _ _ b ⟨s.val, by omega⟩ d rfl rfl rfl).trans ?_
    exact (blk_ck m c t b _ d).trans (V_ck m c _ _ d)
  · rw [dif_neg h]
    refine (moved_new _ _ _ b ⟨s.val - 120, by omega⟩ d rfl (by show s.val = 120 + (s.val - 120); omega) rfl).trans ?_
    refine (blk_n m c t _ _).trans ((V_nk m c _ d).trans ?_)
    refine congrArg (m ((c : Thread nD τ).loc main_arg1)) ?_
    congr 1
    · exact Fin.ext (by show (128 * t.val + (b.val * 8 + (s.val - 120))) / 8 = 16 * t.val + b.val; omega)
    · exact Fin.ext (by show (128 * t.val + (b.val * 8 + (s.val - 120))) % 8 = 8 + s.val - 128; omega)

theorem out_k_congr {t t' : Fin cfg0.N} (y : S16x128x128.Idx) (a : Fin 16) (b d : Fin 128) (ht : t.val = t'.val)
    (ha : (y 0).val = a.val) (hb : (y 1).val = b.val) (hd : (y 2).val = d.val) : out_k m c t y = out_k m c t' (ix3 a b d) := by
  obtain rfl : t = t' := Fin.ext ht
  refine congrArg (out_k m c t) (funext fun k => ?_)
  fin_cases k
  · exact Fin.ext ha
  · exact Fin.ext hb
  · exact Fin.ext hd

theorem array_k : (dats m 0 c).arrAt 16 cfg0.N =
    fun i : S128x128x128.Idx => out_k m c (pt (i 0)) (ix3 ⟨(i 0).val % 16, by omega⟩ (i 1) (i 2)) := by
  refine (dats m 0 c).arrAt_eq_of_covers 16 _ (by decide +kernel) fun t hf y => ?_
  have hy : (y 0).val < 16 := (y 0).isLt
  have e0 : (((cfg0.win 16).blk t).view.emb y 0 : ℕ) = t.val * 16 + (y 0).val := by
    blk_simp [(idx_ok t).1]
  have e1 : (((cfg0.win 16).blk t).view.emb y 1 : ℕ) = (y 1).val := by
    blk_simp [(idx_ok t).2.1]
  have e2 : (((cfg0.win 16).blk t).view.emb y 2 : ℕ) = (y 2).val := by
    blk_simp [(idx_ok t).2.2]
  rw [after_k]
  refine out_k_congr m c y _ _ _ ?_ ?_ e1.symm e2.symm
  · show _ = (((cfg0.win 16).blk t).view.emb y 0 : ℕ) / 16
    rw [e0]; omega
  · show _ = (((cfg0.win 16).blk t).view.emb y 0 : ℕ) % 16
    rw [e0]; omega

theorem final_k (b s d : Fin 128) : (dats m 0 c).arrAt 16 cfg0.N (ix3 b s d) = win_k m c b s d := by
  rw [array_k]
  refine (out_k_at m c (pt b) ⟨b.val % 16, by omega⟩ s d).trans (congrArg (fun n => win_k m c n s d) (Fin.ext ?_))
  show 16 * (b.val / 16) + b.val % 16 = b.val
  omega
end

/-! ## The values -/

theorem new_v (x : Vec Ideal S128x128 .f32) (b : Fin 16) (s : Fin 8) (d : Fin 128) :
    k0_pay6 x (ix3 b s d) = x (ix2 ⟨b.val * 8 + s.val, by omega⟩ d) := by
  pointwise [k0_pay6]

theorem old_v (x : Vec Ideal S16x128x128 .f32) (b : Fin 16) (s : Fin 120) (d : Fin 128) :
    k0_pay8 x (ix3 b s d) = x (ix3 b ⟨8 + s.val, by omega⟩ d) := by
  pointwise [k0_pay8, k0_pay4]

theorem stores_v (old : Vec Ideal S16x128x128 .f32) (new : Vec Ideal S128x128 .f32) :
    View.canon ([⟨Rect.unit ![0, 120, 0] ![16, 8, 128] inb_S16x128x128_S16x8x128_0_120_0, k0_pay6 new⟩,
        ⟨Rect.unit ![0, 0, 0] ![16, 120, 128] inb_S16x128x128_S16x120x128_0_0_0, k0_pay8 old⟩] : List (View.Piece (Elt Ideal) S16x128x128 .f32))
      = moved old new := by
  funext y
  refine View.canon_apply_of_pieces (moved old new) _ (fun p hp => ?_) y (covered _ _ y)
  simp only [List.mem_cons, List.not_mem_nil, or_false] at hp
  rcases hp with rfl | rfl
  · intro (x : S16x8x128.Idx)
    refine (congrArg (k0_pay6 new) (eq_ix3 x)).trans ((new_v new (x 0) (x 1) (x 2)).trans (moved_new old new _ (x 0) (x 1) (x 2) ?_ ?_ ?_).symm)
    · exact (ValueKit.rect_emb_unit_val _ _ inb_S16x128x128_S16x8x128_0_120_0 _ 0).trans (Nat.zero_add _)
    · exact ValueKit.rect_emb_unit_val _ _ inb_S16x128x128_S16x8x128_0_120_0 _ 1
    · exact (ValueKit.rect_emb_unit_val _ _ inb_S16x128x128_S16x8x128_0_120_0 _ 2).trans (Nat.zero_add _)
  · intro (x : S16x120x128.Idx)
    refine (congrArg (k0_pay8 old) (eq_ix3 x)).trans ((old_v old (x 0) (x 1) (x 2)).trans (moved_old old new _ (x 0) (x 1) (x 2) ?_ ?_ ?_).symm)
    · exact (ValueKit.rect_emb_unit_val _ _ inb_S16x128x128_S16x120x128_0_0_0 _ 0).trans (Nat.zero_add _)
    · exact (ValueKit.rect_emb_unit_val _ _ inb_S16x128x128_S16x120x128_0_0_0 _ 1).trans (Nat.zero_add _)
    · exact (ValueKit.rect_emb_unit_val _ _ inb_S16x128x128_S16x120x128_0_0_0 _ 2).trans (Nat.zero_add _)

section
variable (m : (ℓ : Loc nD τ sig) → Buf (Elt Ideal) ℓ) (c : Dev nD)

/-- The block of values point `t` leaves. -/
@[irreducible] def out_v (t : Fin cfg0.N) : Vec Ideal S16x128x128 .f32 := (outsAt0 m c t).2.2.1

theorem after_v (t : Fin cfg0.N) : (dats m 0 c).after 17 t = out_v m c t := by unfold out_v; exact after0_17 m c t

theorem out_v_eq (t : Fin cfg0.N) : out_v m c t =
    moved (iblk m c 3 t) (fun x : S128x128.Idx => (iblk m c 1 t : Vec Ideal S128x256 .f32) (ix2 (x 0) ⟨128 + (x 1).val, by
      have h1 : (x 1).val < 128 := (x 1).isLt
      omega⟩)) := by
  unfold out_v outsAt0
  dsimp only
  unfold out0_A_17
  dsimp only [kernelRun0_A]
  rw [View.read_writes_junk_eq_canon]
  refine (stores_v _ _).trans (congrArg₂ moved ?_ ?_)
  · funext x
    rw [Memref.IsWhole.readAt_unread]
    refine congrArg (iblk m c 3 t) (funext fun k => Fin.ext ?_)
    fin_cases k
    · exact (ValueKit.rect_emb_unit_val _ _ _ _ 0).trans (Nat.zero_add _)
    · exact (ValueKit.rect_emb_unit_val _ _ _ _ 1).trans (Nat.zero_add _)
    · exact (ValueKit.rect_emb_unit_val _ _ _ _ 2).trans (Nat.zero_add _)
  · funext x
    rw [Memref.IsWhole.readAt_unread]
    refine congrArg (iblk m c 1 t) (funext fun k => Fin.ext ?_)
    fin_cases k
    · exact (ValueKit.rect_emb_unit_val _ _ _ _ 0).trans (Nat.zero_add _)
    · exact ValueKit.rect_emb_unit_val _ _ _ _ 1

theorem V_nv (n : Fin 1024) (d : Fin 128) : V m c main_v2 (ix2 n ⟨128 + d.val, by omega⟩) =
    m ((c : Thread nD τ).loc main_arg2) (ix4 ⟨n.val / 8, by omega⟩ ⟨n.val % 8, by omega⟩ ⟨d.val / 64, by omega⟩ ⟨d.val % 64, by omega⟩) := by
  unfold V
  after_reads_at

theorem V_cv (b s d : Fin 128) : V m c main_v18 (ix3 b s d) =
    m ((c : Thread nD τ).loc main_arg4) (ix4 b s ⟨d.val / 64, by omega⟩ ⟨d.val % 64, by omega⟩) := by
  unfold V
  after_reads_at

theorem idx_cv : ∀ t : Fin cfg0.N, win0_3.index t 0 = t.val ∧ win0_3.index t 1 = 0 ∧ win0_3.index t 2 = 0 := by decide +kernel
theorem idx_ov : ∀ t : Fin cfg0.N, win0_17.index t 0 = t.val ∧ win0_17.index t 1 = 0 ∧ win0_17.index t 2 = 0 := by decide +kernel

theorem blk_cv (t : Fin cfg0.N) (b : Fin 16) (s d : Fin 128) : iblk m c 3 t (ix3 b s d) =
    V m c main_v18 (ix3 ⟨16 * t.val + b.val, by have : t.val < 8 := t.isLt; omega⟩ s d) := by
  blk_ext [iblk, V, idx_cv t]

/-- What the window holds in the end. -/
def win_v (b s d : Fin 128) : EReal :=
  if h : 8 + s.val < 128 then m ((c : Thread nD τ).loc main_arg4) (ix4 b ⟨8 + s.val, h⟩ ⟨d.val / 64, by omega⟩ ⟨d.val % 64, by omega⟩)
  else m ((c : Thread nD τ).loc main_arg2) (ix4 b ⟨8 + s.val - 128, by omega⟩ ⟨d.val / 64, by omega⟩ ⟨d.val % 64, by omega⟩)

theorem out_v_at (t : Fin cfg0.N) (b : Fin 16) (s d : Fin 128) :
    out_v m c t (ix3 b s d) = win_v m c ⟨16 * t.val + b.val, by have : t.val < 8 := t.isLt; omega⟩ s d := by
  have ht : t.val < 8 := t.isLt
  rw [out_v_eq]
  unfold win_v
  by_cases h : 8 + s.val < 128
  · rw [dif_pos h]
    refine (moved_old _ _ _ b ⟨s.val, by omega⟩ d rfl rfl rfl).trans ?_
    exact (blk_cv m c t b _ d).trans (V_cv m c _ _ d)
  · rw [dif_neg h]
    refine (moved_new _ _ _ b ⟨s.val - 120, by omega⟩ d rfl (by show s.val = 120 + (s.val - 120); omega) rfl).trans ?_
    refine (blk_n m c t _ _).trans ((V_nv m c _ d).trans ?_)
    refine congrArg (m ((c : Thread nD τ).loc main_arg2)) ?_
    congr 1
    · exact Fin.ext (by show (128 * t.val + (b.val * 8 + (s.val - 120))) / 8 = 16 * t.val + b.val; omega)
    · exact Fin.ext (by show (128 * t.val + (b.val * 8 + (s.val - 120))) % 8 = 8 + s.val - 128; omega)

theorem out_v_congr {t t' : Fin cfg0.N} (y : S16x128x128.Idx) (a : Fin 16) (b d : Fin 128) (ht : t.val = t'.val)
    (ha : (y 0).val = a.val) (hb : (y 1).val = b.val) (hd : (y 2).val = d.val) : out_v m c t y = out_v m c t' (ix3 a b d) := by
  obtain rfl : t = t' := Fin.ext ht
  refine congrArg (out_v m c t) (funext fun k => ?_)
  fin_cases k
  · exact Fin.ext ha
  · exact Fin.ext hb
  · exact Fin.ext hd

theorem array_v : (dats m 0 c).arrAt 17 cfg0.N =
    fun i : S128x128x128.Idx => out_v m c (pt (i 0)) (ix3 ⟨(i 0).val % 16, by omega⟩ (i 1) (i 2)) := by
  refine (dats m 0 c).arrAt_eq_of_covers 17 _ (by decide +kernel) fun t hf y => ?_
  have hy : (y 0).val < 16 := (y 0).isLt
  have e0 : (((cfg0.win 17).blk t).view.emb y 0 : ℕ) = t.val * 16 + (y 0).val := by
    blk_simp [(idx_ov t).1]
  have e1 : (((cfg0.win 17).blk t).view.emb y 1 : ℕ) = (y 1).val := by
    blk_simp [(idx_ov t).2.1]
  have e2 : (((cfg0.win 17).blk t).view.emb y 2 : ℕ) = (y 2).val := by
    blk_simp [(idx_ov t).2.2]
  rw [after_v]
  refine out_v_congr m c y _ _ _ ?_ ?_ e1.symm e2.symm
  · show _ = (((cfg0.win 17).blk t).view.emb y 0 : ℕ) / 16
    rw [e0]; omega
  · show _ = (((cfg0.win 17).blk t).view.emb y 0 : ℕ) % 16
    rw [e0]; omega

theorem final_v (b s d : Fin 128) : (dats m 0 c).arrAt 17 cfg0.N (ix3 b s d) = win_v m c b s d := by
  rw [array_v]
  refine (out_v_at m c (pt b) ⟨b.val % 16, by omega⟩ s d).trans (congrArg (fun n => win_v m c n s d) (Fin.ext ?_))
  show 16 * (b.val / 16) + b.val % 16 = b.val
  omega
end

end Cert.Kernel3Ideal.Body

end
-- ==== Proof.Equal3.lean ====
module

public import proofs.«01_k».proof.Proof.Sample3
public import proofs.«01_k».proof.Proof.Gen.Reference3Ideal.Read
public import proofs.«01_k».proof.Defs

@[expose] public section

set_option maxRecDepth 16384

noncomputable section

namespace Cert.Reference3Ideal.Read

open Cert.Reference3Ideal.Gen
open Idealize.ShloMosaic

/-! The reference's windows after the new positions, and the equality of the results. -/

/-- The window of keys: the last rows of the old window and the new rows one after the other. -/
theorem v3_at (x1 : (⟨4, ![128, 8, 2, 64]⟩ : Shape).Idx → EReal) (x3 : (⟨4, ![128, 128, 2, 64]⟩ : Shape).Idx → EReal) (b s d : Fin 128) :
    val_main_v3 (F := Ideal) x1 x3 (ix3 b s d) =
      if h : 8 + s.val < 128 then x3 (ix4 b ⟨8 + s.val, h⟩ ⟨d.val / 64, by omega⟩ ⟨d.val % 64, by omega⟩)
      else x1 (ix4 b ⟨8 + s.val - 128, by omega⟩ ⟨d.val / 64, by omega⟩ ⟨d.val % 64, by omega⟩) := by
  pointwise [val_main_v3, val_main_v2, val_main_v0]

/-- The window of values likewise. -/
theorem v5_at (x2 : (⟨4, ![128, 8, 2, 64]⟩ : Shape).Idx → EReal) (x4 : (⟨4, ![128, 128, 2, 64]⟩ : Shape).Idx → EReal) (b s d : Fin 128) :
    val_main_v5 (F := Ideal) x2 x4 (ix3 b s d) =
      if h : 8 + s.val < 128 then x4 (ix4 b ⟨8 + s.val, h⟩ ⟨d.val / 64, by omega⟩ ⟨d.val % 64, by omega⟩)
      else x2 (ix4 b ⟨8 + s.val - 128, by omega⟩ ⟨d.val / 64, by omega⟩ ⟨d.val % 64, by omega⟩) := by
  pointwise [val_main_v5, val_main_v4, val_main_v1]

end Cert.Reference3Ideal.Read

namespace Cert.Proof

open Idealize.ShloMosaic Idealize.ShloMosaic.TcCoe Idealize.SL.Sem

section Reference
open Cert.Reference3Ideal Cert.Reference3Ideal.Gen Cert.Reference3Ideal.Read
variable (m : (ℓ : Loc nD τ sig) → Buf (Elt Ideal) ℓ) (ρ : Dev nD → PrngReg)

/-- The reference's run, its results as stages of the arguments. -/
theorem ref_run3 : θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg1)) (m ((c.tc : Thread nD τ).loc main_arg3))
      ∧ r.2.mem ((c.tc : Thread nD τ).loc main_v5) = val_main_v5 (F := Ideal) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (val_main_v3_eq _ _), (h c).2.1.trans (val_main_v5_eq _ _), (h c).2.2⟩)
    (Cert.Reference3Ideal.Value.run (F := Ideal) m ρ)

end Reference

section Agree
open Cert.Kernel3Ideal Cert.Kernel3Ideal.Gen Cert.Kernel3Ideal.Body Cert.Reference3Ideal.Read
variable (m : (ℓ : Loc nD τ sig) → Buf (Elt Ideal) ℓ) (c : Dev nD)

theorem k_agree3 (i : (⟨3, ![128, 128, 128]⟩ : Shape).Idx) : val_main_v3 (F := Ideal) (m ((c.tc : Thread nD τ).loc main_arg1)) (m ((c.tc : Thread nD τ).loc main_arg3)) i = (dats m 0 c).arrAt 16 cfg0.N i := by
  rw [eq_ix3 i]
  exact (v3_at _ _ (i 0) (i 1) (i 2)).trans (final_k m c (i 0) (i 1) (i 2)).symm

theorem v_agree3 (i : (⟨3, ![128, 128, 128]⟩ : Shape).Idx) : val_main_v5 (F := Ideal) (m ((c.tc : Thread nD τ).loc main_arg2)) (m ((c.tc : Thread nD τ).loc main_arg4)) i = (dats m 0 c).arrAt 17 cfg0.N i := by
  rw [eq_ix3 i]
  exact (v5_at _ _ (i 0) (i 1) (i 2)).trans (final_v m c (i 0) (i 1) (i 2)).symm

end Agree

theorem algebraic3 : Cert.algebraic_Kernel3Ideal_Reference3Ideal := by
  intro m g m' g' hP hagree
  refine ⟨fun c => (Cert.Kernel3Ideal.Gen.dats m 0 c).arrAt 16 Cert.Kernel3Ideal.cfg0.N,
    fun c => (Cert.Kernel3Ideal.Gen.dats m 0 c).arrAt 17 Cert.Kernel3Ideal.cfg0.N, ?_, ?_⟩
  · exact (θ_run Cert.Kernel3Ideal.defs _ _).mono (fun _ h c => ⟨(h c).2.1, (h c).2.2.1, (h c).2.2.2.2.2.2.2⟩)
      (Cert.Kernel3Ideal.Value.run_blocks m g)
  · refine (θ_run Cert.Reference3Ideal.defs _ _).mono (fun r h c => ?_) (ref_run3 m' g')
    obtain ⟨hk, hv, hargs⟩ := h c
    obtain ⟨e0, e1, e2, e3, e4, e5, e6, e7, e8, e9, e10, e11, e12, e13, e14, e15, e16, e17⟩ := hagree c
    rw [e1, e3] at hk
    rw [e2, e4] at hv
    exact ⟨funext fun i => (congrFun hk i).trans (k_agree3 m c i), funext fun i => (congrFun hv i).trans (v_agree3 m c i), hargs⟩

end Cert.Proof

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.KernelIdeal
public import proofs.«01_k».proof.Proof.Same
public import proofs.«01_k».proof.Proof.Equal
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Equal2
public import proofs.«01_k».proof.Proof.Equal3
public import Idealize.ShloMosaic.Adequacy
public import Idealize.ShloMosaic.Init

@[expose] public section

set_option maxRecDepth 16384

noncomputable section

namespace Cert.Proof

open Idealize.ShloMosaic Idealize.SL.Sem Cert.Kernel

/-- The idealized kernel. -/
theorem frame_ideal : Cert.quiescent_KernelIdeal := fun m ρ _ => Cert.KernelIdeal.Body.frame m ρ
/-- The reference: its run read at the arguments; it has no counters. -/
theorem frame_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)
/-- The idealized kernel, from arguments in the domain. -/
theorem frame_ideal_pre : Cert.quiescent_KernelIdeal_pre_finite := fun m ρ _ => Cert.KernelIdeal.Body.frame m ρ
/-- The reference, from arguments in the domain. -/
theorem frame_reference_pre : Cert.quiescent_ReferenceIdeal_pre_finite := fun m ρ _ => frame_reference m ρ trivial

/-- The references of the sample group's calls: their runs read at the arguments. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_reference3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, facts_finite, facts_rows,
  frame_kernel, frame_ideal, frame_ideal_pre, frame_reference, frame_reference_pre,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  trivial, algebraic, trivial, algebraic2, trivial, algebraic3⟩

end Cert.Proof

end
